-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "temperature" .f32 0x3F4CCCCD#32 ((4 / 5 : ℝ) : EReal)
  ∧ IdealRules.named_const.Statement Cert.KernelIdeal.κ "log2_e" .f32 0x3FB8AA3B#32 (((Real.log 2)⁻¹ : ℝ) : EReal)

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v41) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_rows : Cert.Pre_finite_rows.Facts),
    quiescent_Kernel (hKernel := hKernel)
    ∧ quiescent_KernelIdeal (hKernelIdeal := hKernelIdeal)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ preserves_Kernel_KernelIdeal
    ∧ algebraic_KernelIdeal_ReferenceIdeal_pre_finite_rows (hKernelIdeal := hKernelIdeal) (hReferenceIdeal := hReferenceIdeal) (hPre_finite_rows := hPre_finite_rows)
-- ==== Pre_finite_rows.lean ====
abbrev S12x128x49152 : Shape := ⟨3, ![12, 128, 49152]⟩
abbrev S12x128x1536 : Shape := ⟨3, ![12, 128, 1536]⟩
abbrev S12x128x1536x1 : Shape := ⟨4, ![12, 128, 1536, 1]⟩
abbrev S32 : Shape := ⟨1, ![32]⟩
abbrev S1x1x1x32 : Shape := ⟨4, ![1, 1, 1, 32]⟩
abbrev S12x128x1536x32 : Shape := ⟨4, ![12, 128, 1536, 32]⟩
abbrev S_ : Shape := ⟨0, ![]⟩
abbrev S12x128 : Shape := ⟨2, ![12, 128]⟩

class Facts : Prop where
  bcast_S12x128x1536_S12x128x1536x1_0_1_2 : S12x128x1536.BroadcastsInDim S12x128x1536x1 (![0, 1, 2] : Fin 3 → Fin S12x128x1536x1.rank)
  bcast_S32_S1x1x1x32_3 : S32.BroadcastsInDim S1x1x1x32 (![3] : Fin 1 → Fin S1x1x1x32.rank)
  bcast_S12x128x1536x1_S12x128x1536x32_0_1_2_3 : S12x128x1536x1.BroadcastsInDim S12x128x1536x32 (![0, 1, 2, 3] : Fin 4 → Fin S12x128x1536x32.rank)
  bcast_S1x1x1x32_S12x128x1536x32_0_1_2_3 : S1x1x1x32.BroadcastsInDim S12x128x1536x32 (![0, 1, 2, 3] : Fin 4 → Fin S12x128x1536x32.rank)
  bcast_S_S12x128x1536x32 : S_.BroadcastsInDim S12x128x1536x32 (![] : Fin 0 → Fin S12x128x1536x32.rank)
  shapeCasts_S12x128x1536x32_S12x128x49152 : S12x128x1536x32.ShapeCasts S12x128x49152
  bcast_S_S12x128x49152 : S_.BroadcastsInDim S12x128x49152 (![] : Fin 0 → Fin S12x128x49152.rank)
  bitsLt_bf16_f32 : FTy.bits .bf16 < FTy.bits .f32
  reducesTo_S12x128x49152_S12x128_d2 : S12x128x49152.ReducesTo [2] S12x128
  h_S_ : 0 < S_.numel
  bcast_S_S12x128 : S_.BroadcastsInDim S12x128 (![] : Fin 0 → Fin S12x128.rank)

variable [Facts]

def fn_where {F : FTy → Type} [FloatOps F] (arg0 : IVec S12x128x49152 1) (arg1 : FVec F S12x128x49152 .f32) (arg2 : FVec F S_ .f32) : FVec F S12x128x49152 .f32 :=
  let v0 : FVec F S_ .f32 := id arg2
  let v1 : FVec F S12x128x49152 .f32 := broadcastInDim S12x128x49152 ![] bcast_S_S12x128x49152 v0
  let v2 : FVec F S12x128x49152 .f32 := select arg0 arg1 v1
  v2

def fn_part1 {F : FTy → Type} [FloatOps F] (main_v15 : IVec S12x128 1) (main_v17 : IVec S12x128 1) : IVec S12x128 1 :=
  let main_v18 : IVec S12x128 1 := andi main_v15 main_v17
  main_v18

def fn {F : FTy → Type} [FloatOps F] (main_arg0 : FVec F S12x128x49152 .bf16) (main_arg1 : IVec S12x128x1536 32) : IVec S12x128 1 :=
  let main_v0 : IVec S12x128x1536x1 32 := broadcastInDim S12x128x1536x1 ![0, 1, 2] bcast_S12x128x1536_S12x128x1536x1_0_1_2 main_arg1
  let main_v1 : IVec S32 32 := iotaInDim S32 32 0
  let main_v2 : IVec S1x1x1x32 32 := broadcastInDim S1x1x1x32 ![3] bcast_S32_S1x1x1x32_3 main_v1
  let main_v3 : IVec S12x128x1536x32 32 := broadcastInDim S12x128x1536x32 ![0, 1, 2, 3] bcast_S12x128x1536x1_S12x128x1536x32_0_1_2_3 main_v0
  let main_v4 : IVec S12x128x1536x32 32 := broadcastInDim S12x128x1536x32 ![0, 1, 2, 3] bcast_S1x1x1x32_S12x128x1536x32_0_1_2_3 main_v2
  let main_v5 : IVec S12x128x1536x32 32 := Host.shrui main_v3 main_v4
  let main_c : IVec S_ 32 := constantI S_ 32 1#32
  let main_v6 : IVec S12x128x1536x32 32 := broadcastInDim S12x128x1536x32 ![] bcast_S_S12x128x1536x32 main_c
  let main_v7 : IVec S12x128x1536x32 32 := andi main_v5 main_v6
  let main_v8 : IVec S12x128x49152 32 := shapeCast S12x128x49152 main_v7 shapeCasts_S12x128x1536x32_S12x128x49152
  let main_c_0 : IVec S_ 32 := constantI S_ 32 0#32
  let main_v9 : IVec S12x128x49152 32 := broadcastInDim S12x128x49152 ![] bcast_S_S12x128x49152 main_c_0
  let main_v10 : IVec S12x128x49152 1 := cmpi .ne main_v8 main_v9
  let main_v11 : FVec F S12x128x49152 .f32 := (extf .f32 · bitsLt_bf16_f32) main_arg0
  let main_cst : FVec F S_ .f32 := constant S_ .f32 0xFF800000#32
  let main_v12 : FVec F S12x128x49152 .f32 := fn_where (F := F) main_v10 main_v11 main_cst
  let main_cst_1 : FVec F S_ .f32 := constant S_ .f32 0xFF800000#32
  let main_v13 : FVec F S12x128 .f32 := (fun x v => Host.reduce FloatOps.maximumf x v reducesTo_S12x128x49152_S12x128_d2 h_S_) main_v12 main_cst_1
  let main_cst_2 : FVec F S_ .f32 := constant S_ .f32 0xFF800000#32
  let main_v14 : FVec F S12x128 .f32 := broadcastInDim S12x128 ![] bcast_S_S12x128 main_cst_2
  let main_v15 : IVec S12x128 1 := cmpf .ogt main_v13 main_v14
  let main_cst_3 : FVec F S_ .f32 := constant S_ .f32 0x7F800000#32
  let main_v16 : FVec F S12x128 .f32 := broadcastInDim S12x128 ![] bcast_S_S12x128 main_cst_3
  let main_v17 : IVec S12x128 1 := cmpf .olt main_v13 main_v16
  fn_part1 (F := F) main_v15 main_v17
-- ==== Kernel.lean ====
abbrev S12x128x49152 : Shape := ⟨3, ![12, 128, 49152]⟩
abbrev S12x128x1536 : Shape := ⟨3, ![12, 128, 1536]⟩
abbrev S1536x49152 : Shape := ⟨2, ![1536, 49152]⟩
abbrev S1536x1536 : Shape := ⟨2, ![1536, 1536]⟩
abbrev S12x128 : Shape := ⟨2, ![12, 128]⟩
abbrev S32x49152 : Shape := ⟨2, ![32, 49152]⟩
abbrev S32x1536 : Shape := ⟨2, ![32, 1536]⟩
abbrev S2x24x8x128 : Shape := ⟨4, ![2, 24, 8, 128]⟩
abbrev S8x128 : Shape := ⟨2, ![8, 128]⟩
abbrev S16x128 : Shape := ⟨2, ![16, 128]⟩
abbrev S1x1x8x128 : Shape := ⟨4, ![1, 1, 8, 128]⟩
abbrev S8x128x1 : Shape := ⟨3, ![8, 128, 1]⟩
abbrev S16 : Shape := ⟨1, ![16]⟩
abbrev S16x1 : Shape := ⟨2, ![16, 1]⟩
abbrev S32x128 : Shape := ⟨2, ![32, 128]⟩
abbrev S32 : Shape := ⟨1, ![32]⟩
abbrev S32x1 : Shape := ⟨2, ![32, 1]⟩
abbrev S128 : Shape := ⟨1, ![128]⟩
abbrev S1x128 : Shape := ⟨2, ![1, 128]⟩

abbrev nBuf : Space → Nat
  | .hbm => 7
  | .vmem => 11
  | .smem => 0
  | _ => 0

abbrev bufTy : (tb : Table) → Fin (tcTables nBuf tb) → BufTy
  | .hbm, ⟨0, _⟩ => ⟨S12x128x49152, .bf16⟩
  | .hbm, ⟨1, _⟩ => ⟨S12x128x1536, .i32⟩
  | .hbm, ⟨2, _⟩ => ⟨S1536x49152, .bf16⟩
  | .hbm, ⟨3, _⟩ => ⟨S1536x1536, .i32⟩
  | .hbm, ⟨4, _⟩ => ⟨S1536x49152, .fp8e4m3⟩
  | .hbm, ⟨5, _⟩ => ⟨S12x128, .f32⟩
  | .hbm, ⟨6, _⟩ => ⟨S12x128, .f32⟩
  | .local _ .vmem, ⟨0, _⟩ => ⟨S32x49152, .bf16⟩
  | .local _ .vmem, ⟨1, _⟩ => ⟨S32x49152, .bf16⟩
  | .local _ .vmem, ⟨2, _⟩ => ⟨S32x1536, .i32⟩
  | .local _ .vmem, ⟨3, _⟩ => ⟨S32x1536, .i32⟩
  | .local _ .vmem, ⟨4, _⟩ => ⟨S32x49152, .fp8e4m3⟩
  | .local _ .vmem, ⟨5, _⟩ => ⟨S32x49152, .fp8e4m3⟩
  | .local _ .vmem, ⟨6, _⟩ => ⟨S12x128, .f32⟩
  | .local _ .vmem, ⟨7, _⟩ => ⟨S12x128, .f32⟩
  | .local _ .vmem, ⟨8, _⟩ => ⟨S2x24x8x128, .i32⟩
  | .local _ .vmem, ⟨9, _⟩ => ⟨S32x49152, .bf16⟩
  | .local _ .vmem, ⟨10, _⟩ => ⟨S32x49152, .f32⟩
  | _, _ => ⟨S12x128x49152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![48], ![false]⟩

@[reducible] def k0_t1_loop : Scf.Loop 32 :=
  let c0_i32_291 : BitVec 32 := 0#32
  let c16_i32_292 : BitVec 32 := 16#32
  let v496 : BitVec 32 := Scalar.addi c0_i32_291 c16_i32_292
  let c1_i32_293 : BitVec 32 := 1#32
  ⟨c0_i32_291, v496, c1_i32_293⟩
def k0_mult1 (k0_t1 : Fin k0_t1_loop.trips) : BitVec 32 :=
  let c0_i32_351 : BitVec 32 := 0#32
  let c0_i32_291 : BitVec 32 := 0#32
  let c1_i32_293 : BitVec 32 := 1#32
  let arg9 : BitVec 32 := Scf.iv c0_i32_291 c1_i32_293 k0_t1
  let c128_i32 : BitVec 32 := 128#32
  let v610 : BitVec 32 := Scalar.muli arg9 c128_i32
  let v611 : BitVec 32 := Scalar.addi c0_i32_351 v610
  v611
def k0_off1 (k0_t1 : Fin k0_t1_loop.trips) (c0_i32_351 : BitVec 32) : Fin 2 → Nat :=
  let c0_358 : Index := 0#32
  let c0_i32_291 : BitVec 32 := 0#32
  let c1_i32_293 : BitVec 32 := 1#32
  let arg9 : BitVec 32 := Scf.iv c0_i32_291 c1_i32_293 k0_t1
  let c128_i32 : BitVec 32 := 128#32
  let v610 : BitVec 32 := Scalar.muli arg9 c128_i32
  let v611 : BitVec 32 := Scalar.addi c0_i32_351 v610
  let v612 : BitVec 32 := v611
  let v627 : Index := Scalar.indexCast v612
  ![0, v627.toNat]
def k0_off2 (k0_t1 : Fin k0_t1_loop.trips) (c0_i32_351 : BitVec 32) : Fin 2 → Nat :=
  let c16_367 : Index := 16#32
  let c0_i32_291 : BitVec 32 := 0#32
  let c1_i32_293 : BitVec 32 := 1#32
  let arg9 : BitVec 32 := Scf.iv c0_i32_291 c1_i32_293 k0_t1
  let c128_i32 : BitVec 32 := 128#32
  let v610 : BitVec 32 := Scalar.muli arg9 c128_i32
  let v611 : BitVec 32 := Scalar.addi c0_i32_351 v610
  let v612 : BitVec 32 := v611
  let v650 : Index := Scalar.indexCast v612
  ![16, v650.toNat]
def k0_mult2 (k0_t1 : Fin k0_t1_loop.trips) : BitVec 32 :=
  let c2048_i32 : BitVec 32 := 2048#32
  let c0_i32_291 : BitVec 32 := 0#32
  let c1_i32_293 : BitVec 32 := 1#32
  let arg9 : BitVec 32 := Scf.iv c0_i32_291 c1_i32_293 k0_t1
  let c128_i32_369 : BitVec 32 := 128#32
  let v659 : BitVec 32 := Scalar.muli arg9 c128_i32_369
  let v660 : BitVec 32 := Scalar.addi c2048_i32 v659
  v660
def k0_mult3 (k0_t1 : Fin k0_t1_loop.trips) : BitVec 32 :=
  let c4096_i32 : BitVec 32 := 4096#32
  let c0_i32_291 : BitVec 32 := 0#32
  let c1_i32_293 : BitVec 32 := 1#32
  let arg9 : BitVec 32 := Scf.iv c0_i32_291 c1_i32_293 k0_t1
  let c128_i32_388 : BitVec 32 := 128#32
  let v708 : BitVec 32 := Scalar.muli arg9 c128_i32_388
  let v709 : BitVec 32 := Scalar.addi c4096_i32 v708
  v709
def k0_mult4 (k0_t1 : Fin k0_t1_loop.trips) : BitVec 32 :=
  let c6144_i32 : BitVec 32 := 6144#32
  let c0_i32_291 : BitVec 32 := 0#32
  let c1_i32_293 : BitVec 32 := 1#32
  let arg9 : BitVec 32 := Scf.iv c0_i32_291 c1_i32_293 k0_t1
  let c128_i32_407 : BitVec 32 := 128#32
  let v757 : BitVec 32 := Scalar.muli arg9 c128_i32_407
  let v758 : BitVec 32 := Scalar.addi c6144_i32 v757
  v758
def k0_mult5 (k0_t1 : Fin k0_t1_loop.trips) : BitVec 32 :=
  let c8192_i32 : BitVec 32 := 8192#32
  let c0_i32_291 : BitVec 32 := 0#32
  let c1_i32_293 : BitVec 32 := 1#32
  let arg9 : BitVec 32 := Scf.iv c0_i32_291 c1_i32_293 k0_t1
  let c128_i32_426 : BitVec 32 := 128#32
  let v806 : BitVec 32 := Scalar.muli arg9 c128_i32_426
  let v807 : BitVec 32 := Scalar.addi c8192_i32 v806
  v807
def k0_mult6 (k0_t1 : Fin k0_t1_loop.trips) : BitVec 32 :=
  let c10240_i32 : BitVec 32 := 10240#32
  let c0_i32_291 : BitVec 32 := 0#32
  let c1_i32_293 : BitVec 32 := 1#32
  let arg9 : BitVec 32 := Scf.iv c0_i32_291 c1_i32_293 k0_t1
  let c128_i32_445 : BitVec 32 := 128#32
  let v855 : BitVec 32 := Scalar.muli arg9 c128_i32_445
  let v856 : BitVec 32 := Scalar.addi c10240_i32 v855
  v856
def k0_mult7 (k0_t1 : Fin k0_t1_loop.trips) : BitVec 32 :=
  let c12288_i32 : BitVec 32 := 12288#32
  let c0_i32_291 : BitVec 32 := 0#32
  let c1_i32_293 : BitVec 32 := 1#32
  let arg9 : BitVec 32 := Scf.iv c0_i32_291 c1_i32_293 k0_t1
  let c128_i32_464 : BitVec 32 := 128#32
  let v904 : BitVec 32 := Scalar.muli arg9 c128_i32_464
  let v905 : BitVec 32 := Scalar.addi c12288_i32 v904
  v905
def k0_mult8 (k0_t1 : Fin k0_t1_loop.trips) : BitVec 32 :=
  let c14336_i32 : BitVec 32 := 14336#32
  let c0_i32_291 : BitVec 32 := 0#32
  let c1_i32_293 : BitVec 32 := 1#32
  let arg9 : BitVec 32 := Scf.iv c0_i32_291 c1_i32_293 k0_t1
  let c128_i32_483 : BitVec 32 := 128#32
  let v953 : BitVec 32 := Scalar.muli arg9 c128_i32_483
  let v954 : BitVec 32 := Scalar.addi c14336_i32 v953
  v954
def k0_mult9 (k0_t1 : Fin k0_t1_loop.trips) : BitVec 32 :=
  let c16384_i32 : BitVec 32 := 16384#32
  let c0_i32_291 : BitVec 32 := 0#32
  let c1_i32_293 : BitVec 32 := 1#32
  let arg9 : BitVec 32 := Scf.iv c0_i32_291 c1_i32_293 k0_t1
  let c128_i32_502 : BitVec 32 := 128#32
  let v1002 : BitVec 32 := Scalar.muli arg9 c128_i32_502
  let v1003 : BitVec 32 := Scalar.addi c16384_i32 v1002
  v1003
def k0_mult10 (k0_t1 : Fin k0_t1_loop.trips) : BitVec 32 :=
  let c18432_i32 : BitVec 32 := 18432#32
  let c0_i32_291 : BitVec 32 := 0#32
  let c1_i32_293 : BitVec 32 := 1#32
  let arg9 : BitVec 32 := Scf.iv c0_i32_291 c1_i32_293 k0_t1
  let c128_i32_521 : BitVec 32 := 128#32
  let v1051 : BitVec 32 := Scalar.muli arg9 c128_i32_521
  let v1052 : BitVec 32 := Scalar.addi c18432_i32 v1051
  v1052
def k0_mult11 (k0_t1 : Fin k0_t1_loop.trips) : BitVec 32 :=
  let c20480_i32 : BitVec 32 := 20480#32
  let c0_i32_291 : BitVec 32 := 0#32
  let c1_i32_293 : BitVec 32 := 1#32
  let arg9 : BitVec 32 := Scf.iv c0_i32_291 c1_i32_293 k0_t1
  let c128_i32_540 : BitVec 32 := 128#32
  let v1100 : BitVec 32 := Scalar.muli arg9 c128_i32_540
  let v1101 : BitVec 32 := Scalar.addi c20480_i32 v1100
  v1101
def k0_mult12 (k0_t1 : Fin k0_t1_loop.trips) : BitVec 32 :=
  let c22528_i32 : BitVec 32 := 22528#32
  let c0_i32_291 : BitVec 32 := 0#32
  let c1_i32_293 : BitVec 32 := 1#32
  let arg9 : BitVec 32 := Scf.iv c0_i32_291 c1_i32_293 k0_t1
  let c128_i32_559 : BitVec 32 := 128#32
  let v1149 : BitVec 32 := Scalar.muli arg9 c128_i32_559
  let v1150 : BitVec 32 := Scalar.addi c22528_i32 v1149
  v1150
def k0_mult13 (k0_t1 : Fin k0_t1_loop.trips) : BitVec 32 :=
  let c24576_i32 : BitVec 32 := 24576#32
  let c0_i32_291 : BitVec 32 := 0#32
  let c1_i32_293 : BitVec 32 := 1#32
  let arg9 : BitVec 32 := Scf.iv c0_i32_291 c1_i32_293 k0_t1
  let c128_i32_578 : BitVec 32 := 128#32
  let v1198 : BitVec 32 := Scalar.muli arg9 c128_i32_578
  let v1199 : BitVec 32 := Scalar.addi c24576_i32 v1198
  v1199
def k0_mult14 (k0_t1 : Fin k0_t1_loop.trips) : BitVec 32 :=
  let c26624_i32 : BitVec 32 := 26624#32
  let c0_i32_291 : BitVec 32 := 0#32
  let c1_i32_293 : BitVec 32 := 1#32
  let arg9 : BitVec 32 := Scf.iv c0_i32_291 c1_i32_293 k0_t1
  let c128_i32_597 : BitVec 32 := 128#32
  let v1247 : BitVec 32 := Scalar.muli arg9 c128_i32_597
  let v1248 : BitVec 32 := Scalar.addi c26624_i32 v1247
  v1248
def k0_mult15 (k0_t1 : Fin k0_t1_loop.trips) : BitVec 32 :=
  let c28672_i32 : BitVec 32 := 28672#32
  let c0_i32_291 : BitVec 32 := 0#32
  let c1_i32_293 : BitVec 32 := 1#32
  let arg9 : BitVec 32 := Scf.iv c0_i32_291 c1_i32_293 k0_t1
  let c128_i32_616 : BitVec 32 := 128#32
  let v1296 : BitVec 32 := Scalar.muli arg9 c128_i32_616
  let v1297 : BitVec 32 := Scalar.addi c28672_i32 v1296
  v1297
def k0_mult16 (k0_t1 : Fin k0_t1_loop.trips) : BitVec 32 :=
  let c30720_i32 : BitVec 32 := 30720#32
  let c0_i32_291 : BitVec 32 := 0#32
  let c1_i32_293 : BitVec 32 := 1#32
  let arg9 : BitVec 32 := Scf.iv c0_i32_291 c1_i32_293 k0_t1
  let c128_i32_635 : BitVec 32 := 128#32
  let v1345 : BitVec 32 := Scalar.muli arg9 c128_i32_635
  let v1346 : BitVec 32 := Scalar.addi c30720_i32 v1345
  v1346
def k0_mult17 (k0_t1 : Fin k0_t1_loop.trips) : BitVec 32 :=
  let c32768_i32 : BitVec 32 := 32768#32
  let c0_i32_291 : BitVec 32 := 0#32
  let c1_i32_293 : BitVec 32 := 1#32
  let arg9 : BitVec 32 := Scf.iv c0_i32_291 c1_i32_293 k0_t1
  let c128_i32_654 : BitVec 32 := 128#32
  let v1394 : BitVec 32 := Scalar.muli arg9 c128_i32_654
  let v1395 : BitVec 32 := Scalar.addi c32768_i32 v1394
  v1395
def k0_mult18 (k0_t1 : Fin k0_t1_loop.trips) : BitVec 32 :=
  let c34816_i32 : BitVec 32 := 34816#32
  let c0_i32_291 : BitVec 32 := 0#32
  let c1_i32_293 : BitVec 32 := 1#32
  let arg9 : BitVec 32 := Scf.iv c0_i32_291 c1_i32_293 k0_t1
  let c128_i32_673 : BitVec 32 := 128#32
  let v1443 : BitVec 32 := Scalar.muli arg9 c128_i32_673
  let v1444 : BitVec 32 := Scalar.addi c34816_i32 v1443
  v1444
def k0_mult19 (k0_t1 : Fin k0_t1_loop.trips) : BitVec 32 :=
  let c36864_i32 : BitVec 32 := 36864#32
  let c0_i32_291 : BitVec 32 := 0#32
  let c1_i32_293 : BitVec 32 := 1#32
  let arg9 : BitVec 32 := Scf.iv c0_i32_291 c1_i32_293 k0_t1
  let c128_i32_692 : BitVec 32 := 128#32
  let v1492 : BitVec 32 := Scalar.muli arg9 c128_i32_692
  let v1493 : BitVec 32 := Scalar.addi c36864_i32 v1492
  v1493
def k0_mult20 (k0_t1 : Fin k0_t1_loop.trips) : BitVec 32 :=
  let c38912_i32 : BitVec 32 := 38912#32
  let c0_i32_291 : BitVec 32 := 0#32
  let c1_i32_293 : BitVec 32 := 1#32
  let arg9 : BitVec 32 := Scf.iv c0_i32_291 c1_i32_293 k0_t1
  let c128_i32_711 : BitVec 32 := 128#32
  let v1541 : BitVec 32 := Scalar.muli arg9 c128_i32_711
  let v1542 : BitVec 32 := Scalar.addi c38912_i32 v1541
  v1542
def k0_mult21 (k0_t1 : Fin k0_t1_loop.trips) : BitVec 32 :=
  let c40960_i32 : BitVec 32 := 40960#32
  let c0_i32_291 : BitVec 32 := 0#32
  let c1_i32_293 : BitVec 32 := 1#32
  let arg9 : BitVec 32 := Scf.iv c0_i32_291 c1_i32_293 k0_t1
  let c128_i32_730 : BitVec 32 := 128#32
  let v1590 : BitVec 32 := Scalar.muli arg9 c128_i32_730
  let v1591 : BitVec 32 := Scalar.addi c40960_i32 v1590
  v1591
def k0_mult22 (k0_t1 : Fin k0_t1_loop.trips) : BitVec 32 :=
  let c43008_i32 : BitVec 32 := 43008#32
  let c0_i32_291 : BitVec 32 := 0#32
  let c1_i32_293 : BitVec 32 := 1#32
  let arg9 : BitVec 32 := Scf.iv c0_i32_291 c1_i32_293 k0_t1
  let c128_i32_749 : BitVec 32 := 128#32
  let v1639 : BitVec 32 := Scalar.muli arg9 c128_i32_749
  let v1640 : BitVec 32 := Scalar.addi c43008_i32 v1639
  v1640
def k0_mult23 (k0_t1 : Fin k0_t1_loop.trips) : BitVec 32 :=
  let c45056_i32 : BitVec 32 := 45056#32
  let c0_i32_291 : BitVec 32 := 0#32
  let c1_i32_293 : BitVec 32 := 1#32
  let arg9 : BitVec 32 := Scf.iv c0_i32_291 c1_i32_293 k0_t1
  let c128_i32_768 : BitVec 32 := 128#32
  let v1688 : BitVec 32 := Scalar.muli arg9 c128_i32_768
  let v1689 : BitVec 32 := Scalar.addi c45056_i32 v1688
  v1689
def k0_mult24 (k0_t1 : Fin k0_t1_loop.trips) : BitVec 32 :=
  let c47104_i32 : BitVec 32 := 47104#32
  let c0_i32_291 : BitVec 32 := 0#32
  let c1_i32_293 : BitVec 32 := 1#32
  let arg9 : BitVec 32 := Scf.iv c0_i32_291 c1_i32_293 k0_t1
  let c128_i32_787 : BitVec 32 := 128#32
  let v1737 : BitVec 32 := Scalar.muli arg9 c128_i32_787
  let v1738 : BitVec 32 := Scalar.addi c47104_i32 v1737
  v1738
@[reducible] def k0_t2_loop : Scf.Loop 32 :=
  let c0_i32_300 : BitVec 32 := 0#32
  let c16_i32_301 : BitVec 32 := 16#32
  let v513 : BitVec 32 := Scalar.addi c0_i32_300 c16_i32_301
  let c1_i32_302 : BitVec 32 := 1#32
  ⟨c0_i32_300, v513, c1_i32_302⟩
def k0_mult25 (k0_t2 : Fin k0_t2_loop.trips) : BitVec 32 :=
  let c0_i32_350 : BitVec 32 := 0#32
  let c0_i32_300 : BitVec 32 := 0#32
  let c1_i32_302 : BitVec 32 := 1#32
  let arg9 : BitVec 32 := Scf.iv c0_i32_300 c1_i32_302 k0_t2
  let c128_i32 : BitVec 32 := 128#32
  let v607 : BitVec 32 := Scalar.muli arg9 c128_i32
  let v608 : BitVec 32 := Scalar.addi c0_i32_350 v607
  v608
def k0_off3 (k0_t2 : Fin k0_t2_loop.trips) (c0_i32_350 : BitVec 32) : Fin 2 → Nat :=
  let c0_351 : Index := 0#32
  let c0_i32_300 : BitVec 32 := 0#32
  let c1_i32_302 : BitVec 32 := 1#32
  let arg9 : BitVec 32 := Scf.iv c0_i32_300 c1_i32_302 k0_t2
  let c128_i32 : BitVec 32 := 128#32
  let v607 : BitVec 32 := Scalar.muli arg9 c128_i32
  let v608 : BitVec 32 := Scalar.addi c0_i32_350 v607
  let v609 : BitVec 32 := v608
  let v610 : Index := Scalar.indexCast v609
  ![0, v610.toNat]
def k0_off4 (k0_t2 : Fin k0_t2_loop.trips) (c0_i32_350 : BitVec 32) : Fin 2 → Nat :=
  let c16_355 : Index := 16#32
  let c0_i32_300 : BitVec 32 := 0#32
  let c1_i32_302 : BitVec 32 := 1#32
  let arg9 : BitVec 32 := Scf.iv c0_i32_300 c1_i32_302 k0_t2
  let c128_i32 : BitVec 32 := 128#32
  let v607 : BitVec 32 := Scalar.muli arg9 c128_i32
  let v608 : BitVec 32 := Scalar.addi c0_i32_350 v607
  let v609 : BitVec 32 := v608
  let v624 : Index := Scalar.indexCast v609
  ![16, v624.toNat]
def k0_mult26 (k0_t2 : Fin k0_t2_loop.trips) : BitVec 32 :=
  let c2048_i32 : BitVec 32 := 2048#32
  let c0_i32_300 : BitVec 32 := 0#32
  let c1_i32_302 : BitVec 32 := 1#32
  let arg9 : BitVec 32 := Scf.iv c0_i32_300 c1_i32_302 k0_t2
  let c128_i32_359 : BitVec 32 := 128#32
  let v638 : BitVec 32 := Scalar.muli arg9 c128_i32_359
  let v639 : BitVec 32 := Scalar.addi c2048_i32 v638
  v639
def k0_mult27 (k0_t2 : Fin k0_t2_loop.trips) : BitVec 32 :=
  let c4096_i32 : BitVec 32 := 4096#32
  let c0_i32_300 : BitVec 32 := 0#32
  let c1_i32_302 : BitVec 32 := 1#32
  let arg9 : BitVec 32 := Scf.iv c0_i32_300 c1_i32_302 k0_t2
  let c128_i32_368 : BitVec 32 := 128#32
  let v669 : BitVec 32 := Scalar.muli arg9 c128_i32_368
  let v670 : BitVec 32 := Scalar.addi c4096_i32 v669
  v670
def k0_mult28 (k0_t2 : Fin k0_t2_loop.trips) : BitVec 32 :=
  let c6144_i32 : BitVec 32 := 6144#32
  let c0_i32_300 : BitVec 32 := 0#32
  let c1_i32_302 : BitVec 32 := 1#32
  let arg9 : BitVec 32 := Scf.iv c0_i32_300 c1_i32_302 k0_t2
  let c128_i32_377 : BitVec 32 := 128#32
  let v700 : BitVec 32 := Scalar.muli arg9 c128_i32_377
  let v701 : BitVec 32 := Scalar.addi c6144_i32 v700
  v701
def k0_mult29 (k0_t2 : Fin k0_t2_loop.trips) : BitVec 32 :=
  let c8192_i32 : BitVec 32 := 8192#32
  let c0_i32_300 : BitVec 32 := 0#32
  let c1_i32_302 : BitVec 32 := 1#32
  let arg9 : BitVec 32 := Scf.iv c0_i32_300 c1_i32_302 k0_t2
  let c128_i32_386 : BitVec 32 := 128#32
  let v731 : BitVec 32 := Scalar.muli arg9 c128_i32_386
  let v732 : BitVec 32 := Scalar.addi c8192_i32 v731
  v732
def k0_mult30 (k0_t2 : Fin k0_t2_loop.trips) : BitVec 32 :=
  let c10240_i32 : BitVec 32 := 10240#32
  let c0_i32_300 : BitVec 32 := 0#32
  let c1_i32_302 : BitVec 32 := 1#32
  let arg9 : BitVec 32 := Scf.iv c0_i32_300 c1_i32_302 k0_t2
  let c128_i32_395 : BitVec 32 := 128#32
  let v762 : BitVec 32 := Scalar.muli arg9 c128_i32_395
  let v763 : BitVec 32 := Scalar.addi c10240_i32 v762
  v763
def k0_mult31 (k0_t2 : Fin k0_t2_loop.trips) : BitVec 32 :=
  let c12288_i32 : BitVec 32 := 12288#32
  let c0_i32_300 : BitVec 32 := 0#32
  let c1_i32_302 : BitVec 32 := 1#32
  let arg9 : BitVec 32 := Scf.iv c0_i32_300 c1_i32_302 k0_t2
  let c128_i32_404 : BitVec 32 := 128#32
  let v793 : BitVec 32 := Scalar.muli arg9 c128_i32_404
  let v794 : BitVec 32 := Scalar.addi c12288_i32 v793
  v794
def k0_mult32 (k0_t2 : Fin k0_t2_loop.trips) : BitVec 32 :=
  let c14336_i32 : BitVec 32 := 14336#32
  let c0_i32_300 : BitVec 32 := 0#32
  let c1_i32_302 : BitVec 32 := 1#32
  let arg9 : BitVec 32 := Scf.iv c0_i32_300 c1_i32_302 k0_t2
  let c128_i32_413 : BitVec 32 := 128#32
  let v824 : BitVec 32 := Scalar.muli arg9 c128_i32_413
  let v825 : BitVec 32 := Scalar.addi c14336_i32 v824
  v825
def k0_mult33 (k0_t2 : Fin k0_t2_loop.trips) : BitVec 32 :=
  let c16384_i32 : BitVec 32 := 16384#32
  let c0_i32_300 : BitVec 32 := 0#32
  let c1_i32_302 : BitVec 32 := 1#32
  let arg9 : BitVec 32 := Scf.iv c0_i32_300 c1_i32_302 k0_t2
  let c128_i32_422 : BitVec 32 := 128#32
  let v855 : BitVec 32 := Scalar.muli arg9 c128_i32_422
  let v856 : BitVec 32 := Scalar.addi c16384_i32 v855
  v856
def k0_mult34 (k0_t2 : Fin k0_t2_loop.trips) : BitVec 32 :=
  let c18432_i32 : BitVec 32 := 18432#32
  let c0_i32_300 : BitVec 32 := 0#32
  let c1_i32_302 : BitVec 32 := 1#32
  let arg9 : BitVec 32 := Scf.iv c0_i32_300 c1_i32_302 k0_t2
  let c128_i32_431 : BitVec 32 := 128#32
  let v886 : BitVec 32 := Scalar.muli arg9 c128_i32_431
  let v887 : BitVec 32 := Scalar.addi c18432_i32 v886
  v887
def k0_mult35 (k0_t2 : Fin k0_t2_loop.trips) : BitVec 32 :=
  let c20480_i32 : BitVec 32 := 20480#32
  let c0_i32_300 : BitVec 32 := 0#32
  let c1_i32_302 : BitVec 32 := 1#32
  let arg9 : BitVec 32 := Scf.iv c0_i32_300 c1_i32_302 k0_t2
  let c128_i32_440 : BitVec 32 := 128#32
  let v917 : BitVec 32 := Scalar.muli arg9 c128_i32_440
  let v918 : BitVec 32 := Scalar.addi c20480_i32 v917
  v918
def k0_mult36 (k0_t2 : Fin k0_t2_loop.trips) : BitVec 32 :=
  let c22528_i32 : BitVec 32 := 22528#32
  let c0_i32_300 : BitVec 32 := 0#32
  let c1_i32_302 : BitVec 32 := 1#32
  let arg9 : BitVec 32 := Scf.iv c0_i32_300 c1_i32_302 k0_t2
  let c128_i32_449 : BitVec 32 := 128#32
  let v948 : BitVec 32 := Scalar.muli arg9 c128_i32_449
  let v949 : BitVec 32 := Scalar.addi c22528_i32 v948
  v949
def k0_mult37 (k0_t2 : Fin k0_t2_loop.trips) : BitVec 32 :=
  let c24576_i32 : BitVec 32 := 24576#32
  let c0_i32_300 : BitVec 32 := 0#32
  let c1_i32_302 : BitVec 32 := 1#32
  let arg9 : BitVec 32 := Scf.iv c0_i32_300 c1_i32_302 k0_t2
  let c128_i32_458 : BitVec 32 := 128#32
  let v979 : BitVec 32 := Scalar.muli arg9 c128_i32_458
  let v980 : BitVec 32 := Scalar.addi c24576_i32 v979
  v980
def k0_mult38 (k0_t2 : Fin k0_t2_loop.trips) : BitVec 32 :=
  let c26624_i32 : BitVec 32 := 26624#32
  let c0_i32_300 : BitVec 32 := 0#32
  let c1_i32_302 : BitVec 32 := 1#32
  let arg9 : BitVec 32 := Scf.iv c0_i32_300 c1_i32_302 k0_t2
  let c128_i32_467 : BitVec 32 := 128#32
  let v1010 : BitVec 32 := Scalar.muli arg9 c128_i32_467
  let v1011 : BitVec 32 := Scalar.addi c26624_i32 v1010
  v1011
def k0_mult39 (k0_t2 : Fin k0_t2_loop.trips) : BitVec 32 :=
  let c28672_i32 : BitVec 32 := 28672#32
  let c0_i32_300 : BitVec 32 := 0#32
  let c1_i32_302 : BitVec 32 := 1#32
  let arg9 : BitVec 32 := Scf.iv c0_i32_300 c1_i32_302 k0_t2
  let c128_i32_476 : BitVec 32 := 128#32
  let v1041 : BitVec 32 := Scalar.muli arg9 c128_i32_476
  let v1042 : BitVec 32 := Scalar.addi c28672_i32 v1041
  v1042
def k0_mult40 (k0_t2 : Fin k0_t2_loop.trips) : BitVec 32 :=
  let c30720_i32 : BitVec 32 := 30720#32
  let c0_i32_300 : BitVec 32 := 0#32
  let c1_i32_302 : BitVec 32 := 1#32
  let arg9 : BitVec 32 := Scf.iv c0_i32_300 c1_i32_302 k0_t2
  let c128_i32_485 : BitVec 32 := 128#32
  let v1072 : BitVec 32 := Scalar.muli arg9 c128_i32_485
  let v1073 : BitVec 32 := Scalar.addi c30720_i32 v1072
  v1073
def k0_mult41 (k0_t2 : Fin k0_t2_loop.trips) : BitVec 32 :=
  let c32768_i32 : BitVec 32 := 32768#32
  let c0_i32_300 : BitVec 32 := 0#32
  let c1_i32_302 : BitVec 32 := 1#32
  let arg9 : BitVec 32 := Scf.iv c0_i32_300 c1_i32_302 k0_t2
  let c128_i32_494 : BitVec 32 := 128#32
  let v1103 : BitVec 32 := Scalar.muli arg9 c128_i32_494
  let v1104 : BitVec 32 := Scalar.addi c32768_i32 v1103
  v1104
def k0_mult42 (k0_t2 : Fin k0_t2_loop.trips) : BitVec 32 :=
  let c34816_i32 : BitVec 32 := 34816#32
  let c0_i32_300 : BitVec 32 := 0#32
  let c1_i32_302 : BitVec 32 := 1#32
  let arg9 : BitVec 32 := Scf.iv c0_i32_300 c1_i32_302 k0_t2
  let c128_i32_503 : BitVec 32 := 128#32
  let v1134 : BitVec 32 := Scalar.muli arg9 c128_i32_503
  let v1135 : BitVec 32 := Scalar.addi c34816_i32 v1134
  v1135
def k0_mult43 (k0_t2 : Fin k0_t2_loop.trips) : BitVec 32 :=
  let c36864_i32 : BitVec 32 := 36864#32
  let c0_i32_300 : BitVec 32 := 0#32
  let c1_i32_302 : BitVec 32 := 1#32
  let arg9 : BitVec 32 := Scf.iv c0_i32_300 c1_i32_302 k0_t2
  let c128_i32_512 : BitVec 32 := 128#32
  let v1165 : BitVec 32 := Scalar.muli arg9 c128_i32_512
  let v1166 : BitVec 32 := Scalar.addi c36864_i32 v1165
  v1166
def k0_mult44 (k0_t2 : Fin k0_t2_loop.trips) : BitVec 32 :=
  let c38912_i32 : BitVec 32 := 38912#32
  let c0_i32_300 : BitVec 32 := 0#32
  let c1_i32_302 : BitVec 32 := 1#32
  let arg9 : BitVec 32 := Scf.iv c0_i32_300 c1_i32_302 k0_t2
  let c128_i32_521 : BitVec 32 := 128#32
  let v1196 : BitVec 32 := Scalar.muli arg9 c128_i32_521
  let v1197 : BitVec 32 := Scalar.addi c38912_i32 v1196
  v1197
def k0_mult45 (k0_t2 : Fin k0_t2_loop.trips) : BitVec 32 :=
  let c40960_i32 : BitVec 32 := 40960#32
  let c0_i32_300 : BitVec 32 := 0#32
  let c1_i32_302 : BitVec 32 := 1#32
  let arg9 : BitVec 32 := Scf.iv c0_i32_300 c1_i32_302 k0_t2
  let c128_i32_530 : BitVec 32 := 128#32
  let v1227 : BitVec 32 := Scalar.muli arg9 c128_i32_530
  let v1228 : BitVec 32 := Scalar.addi c40960_i32 v1227
  v1228
def k0_mult46 (k0_t2 : Fin k0_t2_loop.trips) : BitVec 32 :=
  let c43008_i32 : BitVec 32 := 43008#32
  let c0_i32_300 : BitVec 32 := 0#32
  let c1_i32_302 : BitVec 32 := 1#32
  let arg9 : BitVec 32 := Scf.iv c0_i32_300 c1_i32_302 k0_t2
  let c128_i32_539 : BitVec 32 := 128#32
  let v1258 : BitVec 32 := Scalar.muli arg9 c128_i32_539
  let v1259 : BitVec 32 := Scalar.addi c43008_i32 v1258
  v1259
def k0_mult47 (k0_t2 : Fin k0_t2_loop.trips) : BitVec 32 :=
  let c45056_i32 : BitVec 32 := 45056#32
  let c0_i32_300 : BitVec 32 := 0#32
  let c1_i32_302 : BitVec 32 := 1#32
  let arg9 : BitVec 32 := Scf.iv c0_i32_300 c1_i32_302 k0_t2
  let c128_i32_548 : BitVec 32 := 128#32
  let v1289 : BitVec 32 := Scalar.muli arg9 c128_i32_548
  let v1290 : BitVec 32 := Scalar.addi c45056_i32 v1289
  v1290
def k0_mult48 (k0_t2 : Fin k0_t2_loop.trips) : BitVec 32 :=
  let c47104_i32 : BitVec 32 := 47104#32
  let c0_i32_300 : BitVec 32 := 0#32
  let c1_i32_302 : BitVec 32 := 1#32
  let arg9 : BitVec 32 := Scf.iv c0_i32_300 c1_i32_302 k0_t2
  let c128_i32_557 : BitVec 32 := 128#32
  let v1320 : BitVec 32 := Scalar.muli arg9 c128_i32_557
  let v1321 : BitVec 32 := Scalar.addi c47104_i32 v1320
  v1321
@[reducible] def k0_t3_loop : Scf.Loop 32 :=
  let c1_i32_308 : BitVec 32 := 1#32
  let c255_i32 : BitVec 32 := 255#32
  let v525 : BitVec 32 := Scalar.addi c1_i32_308 c255_i32
  let c1_i32_309 : BitVec 32 := 1#32
  ⟨c1_i32_308, v525, c1_i32_309⟩
@[reducible] def k0_t4_loop : Scf.Loop 32 :=
  let c0_i32_313 : BitVec 32 := 0#32
  let c16_i32_314 : BitVec 32 := 16#32
  let v538 : BitVec 32 := Scalar.addi c0_i32_313 c16_i32_314
  let c1_i32_315 : BitVec 32 := 1#32
  ⟨c0_i32_313, v538, c1_i32_315⟩
def k0_mult49 (k0_t4 : Fin k0_t4_loop.trips) : BitVec 32 :=
  let c0_i32_350 : BitVec 32 := 0#32
  let c0_i32_313 : BitVec 32 := 0#32
  let c1_i32_315 : BitVec 32 := 1#32
  let arg9 : BitVec 32 := Scf.iv c0_i32_313 c1_i32_315 k0_t4
  let c128_i32 : BitVec 32 := 128#32
  let v607 : BitVec 32 := Scalar.muli arg9 c128_i32
  let v608 : BitVec 32 := Scalar.addi c0_i32_350 v607
  v608
def k0_off5 (k0_t4 : Fin k0_t4_loop.trips) (c0_i32_350 : BitVec 32) : Fin 2 → Nat :=
  let c0_351 : Index := 0#32
  let c0_i32_313 : BitVec 32 := 0#32
  let c1_i32_315 : BitVec 32 := 1#32
  let arg9 : BitVec 32 := Scf.iv c0_i32_313 c1_i32_315 k0_t4
  let c128_i32 : BitVec 32 := 128#32
  let v607 : BitVec 32 := Scalar.muli arg9 c128_i32
  let v608 : BitVec 32 := Scalar.addi c0_i32_350 v607
  let v609 : BitVec 32 := v608
  let v610 : Index := Scalar.indexCast v609
  ![0, v610.toNat]
def k0_mult50 (k0_t4 : Fin k0_t4_loop.trips) : BitVec 32 :=
  let c2048_i32 : BitVec 32 := 2048#32
  let c0_i32_313 : BitVec 32 := 0#32
  let c1_i32_315 : BitVec 32 := 1#32
  let arg9 : BitVec 32 := Scf.iv c0_i32_313 c1_i32_315 k0_t4
  let c128_i32_355 : BitVec 32 := 128#32
  let v620 : BitVec 32 := Scalar.muli arg9 c128_i32_355
  let v621 : BitVec 32 := Scalar.addi c2048_i32 v620
  v621
def k0_mult51 (k0_t4 : Fin k0_t4_loop.trips) : BitVec 32 :=
  let c4096_i32 : BitVec 32 := 4096#32
  let c0_i32_313 : BitVec 32 := 0#32
  let c1_i32_315 : BitVec 32 := 1#32
  let arg9 : BitVec 32 := Scf.iv c0_i32_313 c1_i32_315 k0_t4
  let c128_i32_360 : BitVec 32 := 128#32
  let v633 : BitVec 32 := Scalar.muli arg9 c128_i32_360
  let v634 : BitVec 32 := Scalar.addi c4096_i32 v633
  v634
def k0_mult52 (k0_t4 : Fin k0_t4_loop.trips) : BitVec 32 :=
  let c6144_i32 : BitVec 32 := 6144#32
  let c0_i32_313 : BitVec 32 := 0#32
  let c1_i32_315 : BitVec 32 := 1#32
  let arg9 : BitVec 32 := Scf.iv c0_i32_313 c1_i32_315 k0_t4
  let c128_i32_365 : BitVec 32 := 128#32
  let v646 : BitVec 32 := Scalar.muli arg9 c128_i32_365
  let v647 : BitVec 32 := Scalar.addi c6144_i32 v646
  v647
def k0_mult53 (k0_t4 : Fin k0_t4_loop.trips) : BitVec 32 :=
  let c8192_i32 : BitVec 32 := 8192#32
  let c0_i32_313 : BitVec 32 := 0#32
  let c1_i32_315 : BitVec 32 := 1#32
  let arg9 : BitVec 32 := Scf.iv c0_i32_313 c1_i32_315 k0_t4
  let c128_i32_370 : BitVec 32 := 128#32
  let v659 : BitVec 32 := Scalar.muli arg9 c128_i32_370
  let v660 : BitVec 32 := Scalar.addi c8192_i32 v659
  v660
def k0_mult54 (k0_t4 : Fin k0_t4_loop.trips) : BitVec 32 :=
  let c10240_i32 : BitVec 32 := 10240#32
  let c0_i32_313 : BitVec 32 := 0#32
  let c1_i32_315 : BitVec 32 := 1#32
  let arg9 : BitVec 32 := Scf.iv c0_i32_313 c1_i32_315 k0_t4
  let c128_i32_375 : BitVec 32 := 128#32
  let v672 : BitVec 32 := Scalar.muli arg9 c128_i32_375
  let v673 : BitVec 32 := Scalar.addi c10240_i32 v672
  v673
def k0_mult55 (k0_t4 : Fin k0_t4_loop.trips) : BitVec 32 :=
  let c12288_i32 : BitVec 32 := 12288#32
  let c0_i32_313 : BitVec 32 := 0#32
  let c1_i32_315 : BitVec 32 := 1#32
  let arg9 : BitVec 32 := Scf.iv c0_i32_313 c1_i32_315 k0_t4
  let c128_i32_380 : BitVec 32 := 128#32
  let v685 : BitVec 32 := Scalar.muli arg9 c128_i32_380
  let v686 : BitVec 32 := Scalar.addi c12288_i32 v685
  v686
def k0_mult56 (k0_t4 : Fin k0_t4_loop.trips) : BitVec 32 :=
  let c14336_i32 : BitVec 32 := 14336#32
  let c0_i32_313 : BitVec 32 := 0#32
  let c1_i32_315 : BitVec 32 := 1#32
  let arg9 : BitVec 32 := Scf.iv c0_i32_313 c1_i32_315 k0_t4
  let c128_i32_385 : BitVec 32 := 128#32
  let v698 : BitVec 32 := Scalar.muli arg9 c128_i32_385
  let v699 : BitVec 32 := Scalar.addi c14336_i32 v698
  v699
def k0_mult57 (k0_t4 : Fin k0_t4_loop.trips) : BitVec 32 :=
  let c16384_i32 : BitVec 32 := 16384#32
  let c0_i32_313 : BitVec 32 := 0#32
  let c1_i32_315 : BitVec 32 := 1#32
  let arg9 : BitVec 32 := Scf.iv c0_i32_313 c1_i32_315 k0_t4
  let c128_i32_390 : BitVec 32 := 128#32
  let v711 : BitVec 32 := Scalar.muli arg9 c128_i32_390
  let v712 : BitVec 32 := Scalar.addi c16384_i32 v711
  v712
def k0_mult58 (k0_t4 : Fin k0_t4_loop.trips) : BitVec 32 :=
  let c18432_i32 : BitVec 32 := 18432#32
  let c0_i32_313 : BitVec 32 := 0#32
  let c1_i32_315 : BitVec 32 := 1#32
  let arg9 : BitVec 32 := Scf.iv c0_i32_313 c1_i32_315 k0_t4
  let c128_i32_395 : BitVec 32 := 128#32
  let v724 : BitVec 32 := Scalar.muli arg9 c128_i32_395
  let v725 : BitVec 32 := Scalar.addi c18432_i32 v724
  v725
def k0_mult59 (k0_t4 : Fin k0_t4_loop.trips) : BitVec 32 :=
  let c20480_i32 : BitVec 32 := 20480#32
  let c0_i32_313 : BitVec 32 := 0#32
  let c1_i32_315 : BitVec 32 := 1#32
  let arg9 : BitVec 32 := Scf.iv c0_i32_313 c1_i32_315 k0_t4
  let c128_i32_400 : BitVec 32 := 128#32
  let v737 : BitVec 32 := Scalar.muli arg9 c128_i32_400
  let v738 : BitVec 32 := Scalar.addi c20480_i32 v737
  v738
def k0_mult60 (k0_t4 : Fin k0_t4_loop.trips) : BitVec 32 :=
  let c22528_i32 : BitVec 32 := 22528#32
  let c0_i32_313 : BitVec 32 := 0#32
  let c1_i32_315 : BitVec 32 := 1#32
  let arg9 : BitVec 32 := Scf.iv c0_i32_313 c1_i32_315 k0_t4
  let c128_i32_405 : BitVec 32 := 128#32
  let v750 : BitVec 32 := Scalar.muli arg9 c128_i32_405
  let v751 : BitVec 32 := Scalar.addi c22528_i32 v750
  v751
def k0_mult61 (k0_t4 : Fin k0_t4_loop.trips) : BitVec 32 :=
  let c24576_i32 : BitVec 32 := 24576#32
  let c0_i32_313 : BitVec 32 := 0#32
  let c1_i32_315 : BitVec 32 := 1#32
  let arg9 : BitVec 32 := Scf.iv c0_i32_313 c1_i32_315 k0_t4
  let c128_i32_410 : BitVec 32 := 128#32
  let v763 : BitVec 32 := Scalar.muli arg9 c128_i32_410
  let v764 : BitVec 32 := Scalar.addi c24576_i32 v763
  v764
def k0_mult62 (k0_t4 : Fin k0_t4_loop.trips) : BitVec 32 :=
  let c26624_i32 : BitVec 32 := 26624#32
  let c0_i32_313 : BitVec 32 := 0#32
  let c1_i32_315 : BitVec 32 := 1#32
  let arg9 : BitVec 32 := Scf.iv c0_i32_313 c1_i32_315 k0_t4
  let c128_i32_415 : BitVec 32 := 128#32
  let v776 : BitVec 32 := Scalar.muli arg9 c128_i32_415
  let v777 : BitVec 32 := Scalar.addi c26624_i32 v776
  v777
def k0_mult63 (k0_t4 : Fin k0_t4_loop.trips) : BitVec 32 :=
  let c28672_i32 : BitVec 32 := 28672#32
  let c0_i32_313 : BitVec 32 := 0#32
  let c1_i32_315 : BitVec 32 := 1#32
  let arg9 : BitVec 32 := Scf.iv c0_i32_313 c1_i32_315 k0_t4
  let c128_i32_420 : BitVec 32 := 128#32
  let v789 : BitVec 32 := Scalar.muli arg9 c128_i32_420
  let v790 : BitVec 32 := Scalar.addi c28672_i32 v789
  v790
def k0_mult64 (k0_t4 : Fin k0_t4_loop.trips) : BitVec 32 :=
  let c30720_i32 : BitVec 32 := 30720#32
  let c0_i32_313 : BitVec 32 := 0#32
  let c1_i32_315 : BitVec 32 := 1#32
  let arg9 : BitVec 32 := Scf.iv c0_i32_313 c1_i32_315 k0_t4
  let c128_i32_425 : BitVec 32 := 128#32
  let v802 : BitVec 32 := Scalar.muli arg9 c128_i32_425
  let v803 : BitVec 32 := Scalar.addi c30720_i32 v802
  v803
def k0_mult65 (k0_t4 : Fin k0_t4_loop.trips) : BitVec 32 :=
  let c32768_i32 : BitVec 32 := 32768#32
  let c0_i32_313 : BitVec 32 := 0#32
  let c1_i32_315 : BitVec 32 := 1#32
  let arg9 : BitVec 32 := Scf.iv c0_i32_313 c1_i32_315 k0_t4
  let c128_i32_430 : BitVec 32 := 128#32
  let v815 : BitVec 32 := Scalar.muli arg9 c128_i32_430
  let v816 : BitVec 32 := Scalar.addi c32768_i32 v815
  v816
def k0_mult66 (k0_t4 : Fin k0_t4_loop.trips) : BitVec 32 :=
  let c34816_i32 : BitVec 32 := 34816#32
  let c0_i32_313 : BitVec 32 := 0#32
  let c1_i32_315 : BitVec 32 := 1#32
  let arg9 : BitVec 32 := Scf.iv c0_i32_313 c1_i32_315 k0_t4
  let c128_i32_435 : BitVec 32 := 128#32
  let v828 : BitVec 32 := Scalar.muli arg9 c128_i32_435
  let v829 : BitVec 32 := Scalar.addi c34816_i32 v828
  v829
def k0_mult67 (k0_t4 : Fin k0_t4_loop.trips) : BitVec 32 :=
  let c36864_i32 : BitVec 32 := 36864#32
  let c0_i32_313 : BitVec 32 := 0#32
  let c1_i32_315 : BitVec 32 := 1#32
  let arg9 : BitVec 32 := Scf.iv c0_i32_313 c1_i32_315 k0_t4
  let c128_i32_440 : BitVec 32 := 128#32
  let v841 : BitVec 32 := Scalar.muli arg9 c128_i32_440
  let v842 : BitVec 32 := Scalar.addi c36864_i32 v841
  v842
def k0_mult68 (k0_t4 : Fin k0_t4_loop.trips) : BitVec 32 :=
  let c38912_i32 : BitVec 32 := 38912#32
  let c0_i32_313 : BitVec 32 := 0#32
  let c1_i32_315 : BitVec 32 := 1#32
  let arg9 : BitVec 32 := Scf.iv c0_i32_313 c1_i32_315 k0_t4
  let c128_i32_445 : BitVec 32 := 128#32
  let v854 : BitVec 32 := Scalar.muli arg9 c128_i32_445
  let v855 : BitVec 32 := Scalar.addi c38912_i32 v854
  v855
def k0_mult69 (k0_t4 : Fin k0_t4_loop.trips) : BitVec 32 :=
  let c40960_i32 : BitVec 32 := 40960#32
  let c0_i32_313 : BitVec 32 := 0#32
  let c1_i32_315 : BitVec 32 := 1#32
  let arg9 : BitVec 32 := Scf.iv c0_i32_313 c1_i32_315 k0_t4
  let c128_i32_450 : BitVec 32 := 128#32
  let v867 : BitVec 32 := Scalar.muli arg9 c128_i32_450
  let v868 : BitVec 32 := Scalar.addi c40960_i32 v867
  v868
def k0_mult70 (k0_t4 : Fin k0_t4_loop.trips) : BitVec 32 :=
  let c43008_i32 : BitVec 32 := 43008#32
  let c0_i32_313 : BitVec 32 := 0#32
  let c1_i32_315 : BitVec 32 := 1#32
  let arg9 : BitVec 32 := Scf.iv c0_i32_313 c1_i32_315 k0_t4
  let c128_i32_455 : BitVec 32 := 128#32
  let v880 : BitVec 32 := Scalar.muli arg9 c128_i32_455
  let v881 : BitVec 32 := Scalar.addi c43008_i32 v880
  v881
def k0_mult71 (k0_t4 : Fin k0_t4_loop.trips) : BitVec 32 :=
  let c45056_i32 : BitVec 32 := 45056#32
  let c0_i32_313 : BitVec 32 := 0#32
  let c1_i32_315 : BitVec 32 := 1#32
  let arg9 : BitVec 32 := Scf.iv c0_i32_313 c1_i32_315 k0_t4
  let c128_i32_460 : BitVec 32 := 128#32
  let v893 : BitVec 32 := Scalar.muli arg9 c128_i32_460
  let v894 : BitVec 32 := Scalar.addi c45056_i32 v893
  v894
def k0_mult72 (k0_t4 : Fin k0_t4_loop.trips) : BitVec 32 :=
  let c47104_i32 : BitVec 32 := 47104#32
  let c0_i32_313 : BitVec 32 := 0#32
  let c1_i32_315 : BitVec 32 := 1#32
  let arg9 : BitVec 32 := Scf.iv c0_i32_313 c1_i32_315 k0_t4
  let c128_i32_465 : BitVec 32 := 128#32
  let v906 : BitVec 32 := Scalar.muli arg9 c128_i32_465
  let v907 : BitVec 32 := Scalar.addi c47104_i32 v906
  v907
def k0_cond1 (i : grid0.Coords) : BitVec 1 :=
  let arg0 : BitVec 32 := BitVec.ofNat 32 (i 0).val
  let c4_i32_334 : BitVec 32 := 4#32
  let c0_i32_335 : BitVec 32 := 0#32
  let v581 : BitVec 1 := Scalar.cmpi .eq c4_i32_334 c0_i32_335
  let c1_i32_336 : BitVec 32 := 1#32
  let v582 : BitVec 32 := Scalar.select v581 c1_i32_336 c4_i32_334
  let v583 : BitVec 32 := Scalar.remsi arg0 v582
  let c0_i32_338 : BitVec 32 := 0#32
  let v585 : BitVec 1 := Scalar.cmpi .slt v583 c0_i32_338
  let c0_i32_339 : BitVec 32 := 0#32
  let v586 : BitVec 1 := Scalar.cmpi .slt v582 c0_i32_339
  let v587 : BitVec 1 := Scalar.xori v585 v586
  let c0_i32_337 : BitVec 32 := 0#32
  let v584 : BitVec 1 := Scalar.cmpi .ne v583 c0_i32_337
  let v588 : BitVec 1 := Scalar.andi v587 v584
  let v589 : BitVec 32 := Scalar.addi v583 v582
  let v590 : BitVec 32 := Scalar.select v588 v589 v583
  let c0_i32_340 : BitVec 32 := 0#32
  let v591 : BitVec 1 := Scalar.cmpi .eq v590 c0_i32_340
  let v592 : BitVec 32 := Scalar.extui v591
  let c0_i32_341 : BitVec 32 := 0#32
  let v593 : BitVec 1 := Scalar.cmpi .ne v592 c0_i32_341
  v593

def k0_off6 (i : grid0.Coords) : Fin 2 → Nat :=
  let arg0 : BitVec 32 := BitVec.ofNat 32 (i 0).val
  let c0_i32_328 : BitVec 32 := 0#32
  let v565 : BitVec 1 := Scalar.cmpi .sgt arg0 c0_i32_328
  let v566 : BitVec 32 := Scalar.extui v565
  let c0_i32_329 : BitVec 32 := 0#32
  let v567 : BitVec 1 := Scalar.cmpi .slt arg0 c0_i32_329
  let v568 : BitVec 32 := Scalar.extui v567
  let v569 : BitVec 32 := Scalar.subi v566 v568
  let c4_i32_327 : BitVec 32 := 4#32
  let c0_i32_330 : BitVec 32 := 0#32
  let v570 : BitVec 1 := Scalar.cmpi .sgt c4_i32_327 c0_i32_330
  let v571 : BitVec 32 := Scalar.extui v570
  let c0_i32_331 : BitVec 32 := 0#32
  let v572 : BitVec 1 := Scalar.cmpi .slt c4_i32_327 c0_i32_331
  let v573 : BitVec 32 := Scalar.extui v572
  let v574 : BitVec 32 := Scalar.subi v571 v573
  let v575 : BitVec 1 := Scalar.cmpi .ne v569 v574
  let v576 : BitVec 32 := Scalar.remsi arg0 c4_i32_327
  let c0_i32_332 : BitVec 32 := 0#32
  let v577 : BitVec 1 := Scalar.cmpi .ne v576 c0_i32_332
  let v578 : BitVec 1 := Scalar.andi v575 v577
  let v564 : BitVec 32 := Scalar.divsi arg0 c4_i32_327
  let c1_i32_333 : BitVec 32 := 1#32
  let v579 : BitVec 32 := Scalar.subi v564 c1_i32_333
  let v580 : BitVec 32 := Scalar.select v578 v579 v564
  let v607 : Index := Scalar.indexCast v580
  let c0_350 : Index := 0#32
  ![v607.toNat, 0]
def k0_cond2 (i : grid0.Coords) : BitVec 1 :=
  let arg0 : BitVec 32 := BitVec.ofNat 32 (i 0).val
  let c4_i32_342 : BitVec 32 := 4#32
  let c0_i32_343 : BitVec 32 := 0#32
  let v594 : BitVec 1 := Scalar.cmpi .eq c4_i32_342 c0_i32_343
  let c1_i32_344 : BitVec 32 := 1#32
  let v595 : BitVec 32 := Scalar.select v594 c1_i32_344 c4_i32_342
  let v596 : BitVec 32 := Scalar.remsi arg0 v595
  let c0_i32_346 : BitVec 32 := 0#32
  let v598 : BitVec 1 := Scalar.cmpi .slt v596 c0_i32_346
  let c0_i32_347 : BitVec 32 := 0#32
  let v599 : BitVec 1 := Scalar.cmpi .slt v595 c0_i32_347
  let v600 : BitVec 1 := Scalar.xori v598 v599
  let c0_i32_345 : BitVec 32 := 0#32
  let v597 : BitVec 1 := Scalar.cmpi .ne v596 c0_i32_345
  let v601 : BitVec 1 := Scalar.andi v600 v597
  let v602 : BitVec 32 := Scalar.addi v596 v595
  let v603 : BitVec 32 := Scalar.select v601 v602 v596
  let c0_i32_348 : BitVec 32 := 0#32
  let v604 : BitVec 1 := Scalar.cmpi .ne v603 c0_i32_348
  let v605 : BitVec 32 := Scalar.extui v604
  let c0_i32_349 : BitVec 32 := 0#32
  let v606 : BitVec 1 := Scalar.cmpi .ne v605 c0_i32_349
  v606

def k0_off7 (i : grid0.Coords) : Fin 2 → Nat :=
  let arg0 : BitVec 32 := BitVec.ofNat 32 (i 0).val
  let c0_i32_328 : BitVec 32 := 0#32
  let v565 : BitVec 1 := Scalar.cmpi .sgt arg0 c0_i32_328
  let v566 : BitVec 32 := Scalar.extui v565
  let c0_i32_329 : BitVec 32 := 0#32
  let v567 : BitVec 1 := Scalar.cmpi .slt arg0 c0_i32_329
  let v568 : BitVec 32 := Scalar.extui v567
  let v569 : BitVec 32 := Scalar.subi v566 v568
  let c4_i32_327 : BitVec 32 := 4#32
  let c0_i32_330 : BitVec 32 := 0#32
  let v570 : BitVec 1 := Scalar.cmpi .sgt c4_i32_327 c0_i32_330
  let v571 : BitVec 32 := Scalar.extui v570
  let c0_i32_331 : BitVec 32 := 0#32
  let v572 : BitVec 1 := Scalar.cmpi .slt c4_i32_327 c0_i32_331
  let v573 : BitVec 32 := Scalar.extui v572
  let v574 : BitVec 32 := Scalar.subi v571 v573
  let v575 : BitVec 1 := Scalar.cmpi .ne v569 v574
  let v576 : BitVec 32 := Scalar.remsi arg0 c4_i32_327
  let c0_i32_332 : BitVec 32 := 0#32
  let v577 : BitVec 1 := Scalar.cmpi .ne v576 c0_i32_332
  let v578 : BitVec 1 := Scalar.andi v575 v577
  let v564 : BitVec 32 := Scalar.divsi arg0 c4_i32_327
  let c1_i32_333 : BitVec 32 := 1#32
  let v579 : BitVec 32 := Scalar.subi v564 c1_i32_333
  let v580 : BitVec 32 := Scalar.select v578 v579 v564
  let v607 : Index := Scalar.indexCast v580
  let c0_350 : Index := 0#32
  ![v607.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x49152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x49152 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "log2_e" => some (((Real.log 2)⁻¹ : ℝ) : EReal)
  | "temperature" => some ((4 / 5 : ℝ) : EReal)
  | _ => none
-- ==== ReferenceIdeal.lean ====
abbrev S12x128x49152 : Shape := ⟨3, ![12, 128, 49152]⟩
abbrev S12x128x1536 : Shape := ⟨3, ![12, 128, 1536]⟩
abbrev S_ : Shape := ⟨0, ![]⟩
abbrev S12x128x1536x1 : Shape := ⟨4, ![12, 128, 1536, 1]⟩
abbrev S32 : Shape := ⟨1, ![32]⟩
abbrev S1x1x1x32 : Shape := ⟨4, ![1, 1, 1, 32]⟩
abbrev S12x128x1536x32 : Shape := ⟨4, ![12, 128, 1536, 32]⟩
abbrev S12x128 : Shape := ⟨2, ![12, 128]⟩
abbrev S12x128x1 : Shape := ⟨3, ![12, 128, 1]⟩
abbrev S1536x49152 : Shape := ⟨2, ![1536, 49152]⟩

abbrev nBuf : Space → Nat
  | .hbm => 73
  | .vmem => 2
  | .smem => 0
  | _ => 0

abbrev bufTy : (tb : Table) → Fin (tcTables nBuf tb) → BufTy
  | .hbm, ⟨0, _⟩ => ⟨S12x128x49152, .bf16⟩
  | .hbm, ⟨1, _⟩ => ⟨S12x128x1536, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S12x128x1536x1, .i32⟩
  | .hbm, ⟨6, _⟩ => ⟨S32, .i32⟩
  | .hbm, ⟨7, _⟩ => ⟨S1x1x1x32, .i32⟩
  | .hbm, ⟨8, _⟩ => ⟨S12x128x1536x32, .i32⟩
  | .hbm, ⟨9, _⟩ => ⟨S12x128x1536x32, .i32⟩
  | .hbm, ⟨10, _⟩ => ⟨S12x128x1536x32, .i32⟩
  | .hbm, ⟨11, _⟩ => ⟨S_, .i32⟩
  | .hbm, ⟨12, _⟩ => ⟨S12x128x1536x32, .i32⟩
  | .hbm, ⟨13, _⟩ => ⟨S12x128x1536x32, .i32⟩
  | .hbm, ⟨14, _⟩ => ⟨S12x128x49152, .i32⟩
  | .hbm, ⟨15, _⟩ => ⟨S_, .i32⟩
  | .hbm, ⟨16, _⟩ => ⟨S12x128x49152, .i32⟩
  | .hbm, ⟨17, _⟩ => ⟨S12x128x49152, .i1⟩
  | .hbm, ⟨18, _⟩ => ⟨S12x128x49152, .f32⟩
  | .hbm, ⟨19, _⟩ => ⟨S12x128x49152, .f32⟩
  | .hbm, ⟨20, _⟩ => ⟨S12x128x49152, .f32⟩
  | .hbm, ⟨21, _⟩ => ⟨S_, .f32⟩
  | .hbm, ⟨22, _⟩ => ⟨S_, .f32⟩
  | .hbm, ⟨23, _⟩ => ⟨S12x128x49152, .f32⟩
  | .hbm, ⟨24, _⟩ => ⟨S12x128x49152, .f32⟩
  | .hbm, ⟨25, _⟩ => ⟨S_, .f32⟩
  | .hbm, ⟨26, _⟩ => ⟨S12x128, .f32⟩
  | .hbm, ⟨27, _⟩ => ⟨S12x128x1, .f32⟩
  | .hbm, ⟨28, _⟩ => ⟨S12x128x49152, .f32⟩
  | .hbm, ⟨29, _⟩ => ⟨S12x128x49152, .f32⟩
  | .hbm, ⟨30, _⟩ => ⟨S12x128x49152, .f32⟩
  | .hbm, ⟨31, _⟩ => ⟨S_, .f32⟩
  | .hbm, ⟨32, _⟩ => ⟨S12x128, .f32⟩
  | .hbm, ⟨33, _⟩ => ⟨S12x128x1, .f32⟩
  | .hbm, ⟨34, _⟩ => ⟨S12x128x1, .f32⟩
  | .hbm, ⟨35, _⟩ => ⟨S12x128, .f32⟩
  | .hbm, ⟨36, _⟩ => ⟨S12x128x49152, .f32⟩
  | .hbm, ⟨37, _⟩ => ⟨S12x128x49152, .f32⟩
  | .hbm, ⟨38, _⟩ => ⟨S_, .f32⟩
  | .hbm, ⟨39, _⟩ => ⟨S12x128x1, .f32⟩
  | .hbm, ⟨40, _⟩ => ⟨S12x128x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S12x128x1, .f32⟩
  | .hbm, ⟨45, _⟩ => ⟨S12x128x1, .f32⟩
  | .hbm, ⟨46, _⟩ => ⟨S12x128x1, .f32⟩
  | .hbm, ⟨47, _⟩ => ⟨S12x128x1, .f32⟩
  | .hbm, ⟨48, _⟩ => ⟨S12x128x1, .f32⟩
  | .hbm, ⟨49, _⟩ => ⟨S12x128x1, .f32⟩
  | .hbm, ⟨50, _⟩ => ⟨S_, .f32⟩
  | .hbm, ⟨51, _⟩ => ⟨S12x128x1, .f32⟩
  | .hbm, ⟨52, _⟩ => ⟨S12x128x1, .f32⟩
  | .hbm, ⟨53, _⟩ => ⟨S12x128x1, .f32⟩
  | .hbm, ⟨54, _⟩ => ⟨S12x128x1, .f32⟩
  | .hbm, ⟨55, _⟩ => ⟨S12x128x1, .f32⟩
  | .hbm, ⟨56, _⟩ => ⟨S12x128, .f32⟩
  | .hbm, ⟨57, _⟩ => ⟨S12x128x1, .f32⟩
  | .hbm, ⟨58, _⟩ => ⟨S12x128x1, .f32⟩
  | .hbm, ⟨59, _⟩ => ⟨S12x128x1, .f32⟩
  | .hbm, ⟨60, _⟩ => ⟨S12x128x1, .f32⟩
  | .hbm, ⟨61, _⟩ => ⟨S12x128x49152, .f32⟩
  | .hbm, ⟨62, _⟩ => ⟨S12x128x49152, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S12x128x49152, .f32⟩
  | .hbm, ⟨67, _⟩ => ⟨S12x128x49152, .f32⟩
  | .hbm, ⟨68, _⟩ => ⟨S_, .f32⟩
  | .hbm, ⟨69, _⟩ => ⟨S12x128x49152, .f32⟩
  | .hbm, ⟨70, _⟩ => ⟨S12x128x49152, .f32⟩
  | .hbm, ⟨71, _⟩ => ⟨S1536x49152, .f32⟩
  | .hbm, ⟨72, _⟩ => ⟨S1536x49152, .fp8e4m3⟩
  | .local _ .vmem, ⟨0, _⟩ => ⟨S1536x49152, .f32⟩
  | .local _ .vmem, ⟨1, _⟩ => ⟨S1536x49152, .fp8e4m3⟩
  | _, _ => ⟨S12x128x49152, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_cst_10 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1536x49152 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x49152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelFrame.lean ====
/-
  The frame of `Kernel`: the body runs to its return at every grid point from any contents of its buffers, so the whole
  launch terminates, the two argument arrays keep their contents and every semaphore counter ends at zero. Nothing is said
  here of what the three results hold.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The body at grid coordinates `i`, for any continuation: from its five operands and three scratch buffers at any
    contents it runs to its return and hands all of them back at some contents. -/
theorem kernelRun (c : Dev nD) (i : grid0.Coords)
    (arg1 : Memref sig .tc .vmem S32x49152 .bf16) (harg1 : arg1.IsWhole) (arg2 : Memref sig .tc .vmem S32x1536 .i32) (harg2 : arg2.IsWhole)
    (arg3 : Memref sig .tc .vmem S32x49152 .fp8e4m3) (harg3 : arg3.IsWhole) (arg4 : Memref sig .tc .vmem S12x128 .f32) (harg4 : arg4.IsWhole)
    (arg5 : Memref sig .tc .vmem S12x128 .f32) (harg5 : arg5.IsWhole) (K : PUnit → sProp 𝕄) :
    iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d)
        ∗ (∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)
        ∗ (iprop((∃ d, owns (c : Thread nD τ) arg1 fullShare d) ∗ (∃ d, owns (c : Thread nD τ) arg2 fullShare d)
            ∗ (∃ d, owns (c : Thread nD τ) arg3 fullShare d) ∗ (∃ d, owns (c : Thread nD τ) arg4 fullShare d)
            ∗ (∃ d, owns (c : Thread nD τ) arg5 fullShare d)
            ∗ (∃ d, owns (c : Thread nD τ) (Memref.whole cc0_scratch0) fullShare d)
            ∗ (∃ d, owns (c : Thread nD τ) (Memref.whole cc0_scratch1) fullShare d)
            ∗ (∃ d, owns (c : Thread nD τ) (Memref.whole cc0_scratch2) fullShare d)) -∗ K ⟨⟩))
      ⊢ wp frame (wpE (defs₀ (F := F)) Variants.none c none) Set.univ
          (cc0_masked_softmax_fp8 i arg1 harg1 arg2 harg2 arg3 harg3 arg4 harg4 arg5 harg5 (Memref.whole cc0_scratch0) (Memref.isWhole_whole _)
            (Memref.whole cc0_scratch1) (Memref.isWhole_whole _) (Memref.whole cc0_scratch2) (Memref.isWhole_whole _)) K := by
  simp only [cc0_masked_softmax_fp8_eq_skeleton]; unfold cc0_masked_softmax_fp8_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  sl_exec
  sl_step
  iapply Hk
  isplitl [H1]; · iexists _, _; isplitr; swap; (· iexact H1); ipureintro; rfl
  isplitl [H2]; · iexists _, _; isplitr; swap; (· iexact H2); ipureintro; rfl
  isplitl [H3]; · iexists _, _; isplitr; swap; (· iexact H3); ipureintro; rfl
  isplitl [H4]; · iexists _, _; isplitr; swap; (· iexact H4); ipureintro; rfl
  isplitl [H5]; · iexists _, _; isplitr; swap; (· iexact H5); ipureintro; rfl
  isplitl [H6]; · iexists _, _; isplitr; swap; (· iexact H6); ipureintro; rfl
  isplitl [H7]; · iexists _, _; isplitr; swap; (· iexact H7); ipureintro; rfl
  iexists _, _; isplitr; swap; (· iexact H8); ipureintro; rfl

/-- The relational proof data of core `c`: the staged arrays as the region finds them, nothing said of what the body leaves
    in a staging buffer, the scratch and the generator register at anything, full shares, nothing owed. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The invariant, conjunct by conjunct: the three scratch buffers at some contents and the generator register. -/
theorem PhiA_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`, the five staging buffers at `Y`. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3)
    ∗ owns (c : Thread nD τ) (st0_4 t) fullShare (Y 4))
/-- What it returns: the five staging buffers at some contents. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X))

/-- The body at point `t` takes `bodyPre` to `bodyPost`. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, PhiA_eq]
  iintro ⟨⟨⟨S0, S1, S2⟩, Hg⟩, HO, H0, H1, H2, H3, H4⟩
  iapply (kernelRun c (grid0.coords t) (st0_0 t) _ (st0_1 t) _ (st0_2 t) _ (st0_3 t) _ (st0_4 t) _ _)
  isplitl [H0]; · iexists _; iexact H0
  isplitl [H1]; · iexists _; iexact H1
  isplitl [H2]; · iexists _; iexact H2
  isplitl [H3]; · iexists _; iexact H3
  isplitl [H4]; · iexists _; iexact H4
  isplitl [S0]; · iexact S0
  isplitl [S1]; · iexact S1
  isplitl [S2]; · iexact S2
  iintro ⟨⟨%x0, H0⟩, ⟨%x1, H1⟩, ⟨%x2, H2⟩, ⟨%x3, H3⟩, ⟨%x4, H4⟩, S0, S1, S2⟩
  isplitl [S0 S1 S2 Hg]
  · isplitl [S0 S1 S2]
    · isplitl [S0]; · iexact S0
      isplitl [S1]; · iexact S1
      iexact S2
    iexact Hg
  isplitl [HO]; · iexact HO
  isplitl [H0]; · iexists x0; isplitr; (· ipureintro; exact trivial); iexact H0
  isplitl [H1]; · iexists x1; isplitr; (· ipureintro; exact trivial); iexact H1
  isplitl [H2]; · iexists x2; isplitr; (· ipureintro; exact trivial); iexact H2
  isplitl [H3]; · iexists x3; isplitr; (· ipureintro; exact trivial); iexact H3
  iexists x4; isplitr; (· ipureintro; exact trivial); iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation of the pipeline rule. -/
theorem body_obligation (c : Dev nD) :
    (rdat (F := F) m c).BodyObligation (defs₀ (F := F)) Variants.none () Set.univ := fun t Y _ => by
  rw [bigSep_W0, bigSep_W0, defs₀_row]
  exact triple_restated (sound_body m c t Y) rfl .rfl fun _ => .rfl

-- the launch theorem's implicit arguments are found by unifying its conclusion with this statement
set_option backward.isDefEq.respectTransparency.types false in
/-- Every weakly fair execution of the launch terminates, every buffer that is no window's array ends as the region found it, and
    every semaphore counter ends at zero. -/
theorem run_main :
    θ_run defs (onTc (τ := τ) (main (F := F))) (s₀ m ρ)
      (fun r => RDat.FramePost (cfgs 0) (fun c => rdat m c) (V m) r ∧ r.2.sem = fun _ => 0) :=
  RDat.θ_run_frame (Q' := _) cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun _ _ => rfl) (hΦ := fun _ _ => rfl)

/-- The frame: both argument arrays end as they began and every semaphore counter at zero. -/
theorem frame :
    θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (run_main m ρ).mono fun r h => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c)⟩, h.2⟩

end Cert.Kernel.Hand

end
-- ==== Proof.KernelIdealFrame.lean ====
/-
  The frame of `KernelIdeal`: the body runs to its return at every grid point from any contents of its buffers, so the whole
  launch terminates, the two argument arrays keep their contents and every semaphore counter ends at zero. Nothing is said
  here of what the three results hold.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The body at grid coordinates `i`, for any continuation: from its five operands and three scratch buffers at any
    contents it runs to its return and hands all of them back at some contents. -/
theorem kernelRun (c : Dev nD) (i : grid0.Coords)
    (arg1 : Memref sig .tc .vmem S32x49152 .bf16) (harg1 : arg1.IsWhole) (arg2 : Memref sig .tc .vmem S32x1536 .i32) (harg2 : arg2.IsWhole)
    (arg3 : Memref sig .tc .vmem S32x49152 .fp8e4m3) (harg3 : arg3.IsWhole) (arg4 : Memref sig .tc .vmem S12x128 .f32) (harg4 : arg4.IsWhole)
    (arg5 : Memref sig .tc .vmem S12x128 .f32) (harg5 : arg5.IsWhole) (K : PUnit → sProp 𝕄) :
    iprop((∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (∃ d, owns (c : Thread nD τ) arg5 fullShare d)
        ∗ (∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)
        ∗ (iprop((∃ d, owns (c : Thread nD τ) arg1 fullShare d) ∗ (∃ d, owns (c : Thread nD τ) arg2 fullShare d)
            ∗ (∃ d, owns (c : Thread nD τ) arg3 fullShare d) ∗ (∃ d, owns (c : Thread nD τ) arg4 fullShare d)
            ∗ (∃ d, owns (c : Thread nD τ) arg5 fullShare d)
            ∗ (∃ d, owns (c : Thread nD τ) (Memref.whole cc0_scratch0) fullShare d)
            ∗ (∃ d, owns (c : Thread nD τ) (Memref.whole cc0_scratch1) fullShare d)
            ∗ (∃ d, owns (c : Thread nD τ) (Memref.whole cc0_scratch2) fullShare d)) -∗ K ⟨⟩))
      ⊢ wp frame (wpE (defs₀ (F := F)) Variants.none c none) Set.univ
          (cc0_masked_softmax_fp8 i arg1 harg1 arg2 harg2 arg3 harg3 arg4 harg4 arg5 harg5 (Memref.whole cc0_scratch0) (Memref.isWhole_whole _)
            (Memref.whole cc0_scratch1) (Memref.isWhole_whole _) (Memref.whole cc0_scratch2) (Memref.isWhole_whole _)) K := by
  simp only [cc0_masked_softmax_fp8_eq_skeleton]; unfold cc0_masked_softmax_fp8_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, Hk⟩
  sl_exec
  sl_step
  iapply Hk
  isplitl [H1]; · iexists _, _; isplitr; swap; (· iexact H1); ipureintro; rfl
  isplitl [H2]; · iexists _, _; isplitr; swap; (· iexact H2); ipureintro; rfl
  isplitl [H3]; · iexists _, _; isplitr; swap; (· iexact H3); ipureintro; rfl
  isplitl [H4]; · iexists _, _; isplitr; swap; (· iexact H4); ipureintro; rfl
  isplitl [H5]; · iexists _, _; isplitr; swap; (· iexact H5); ipureintro; rfl
  isplitl [H6]; · iexists _, _; isplitr; swap; (· iexact H6); ipureintro; rfl
  isplitl [H7]; · iexists _, _; isplitr; swap; (· iexact H7); ipureintro; rfl
  iexists _, _; isplitr; swap; (· iexact H8); ipureintro; rfl

/-- The relational proof data of core `c`: the staged arrays as the region finds them, nothing said of what the body leaves
    in a staging buffer, the scratch and the generator register at anything, full shares, nothing owed. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The invariant, conjunct by conjunct: the three scratch buffers at some contents and the generator register. -/
theorem PhiA_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the body is called with at point `t`, the five staging buffers at `Y`. -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3)
    ∗ owns (c : Thread nD τ) (st0_4 t) fullShare (Y 4))
/-- What it returns: the five staging buffers at some contents. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (st0_0 t) fullShare X)
    ∗ (∃ X, ⌜(rdat m c).after 1 t (Y 1) X⌝ ∗ owns (c : Thread nD τ) (st0_1 t) fullShare X)
    ∗ (∃ X, ⌜(rdat m c).after 2 t (Y 2) X⌝ ∗ owns (c : Thread nD τ) (st0_2 t) fullShare X)
    ∗ (∃ X, ⌜(rdat m c).after 3 t (Y 3) X⌝ ∗ owns (c : Thread nD τ) (st0_3 t) fullShare X)
    ∗ (∃ X, ⌜(rdat m c).after 4 t (Y 4) X⌝ ∗ owns (c : Thread nD τ) (st0_4 t) fullShare X))

/-- The body at point `t` takes `bodyPre` to `bodyPost`. -/
theorem sound_body (c : Dev nD) (t : Fin cfg0.N) (Y : (w : Fin cfg0.W) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdat m c).Φ t.succ = (rdat m c).Φ t.castSucc from rfl,
    show (rdat m c).owesAt () t.succ = (rdat m c).owesAt () t.castSucc from rfl,
    show (rdat m c).Φ t.castSucc = Pipeline.ΦA spec0 c from rfl, PhiA_eq]
  iintro ⟨⟨⟨S0, S1, S2⟩, Hg⟩, HO, H0, H1, H2, H3, H4⟩
  iapply (kernelRun c (grid0.coords t) (st0_0 t) _ (st0_1 t) _ (st0_2 t) _ (st0_3 t) _ (st0_4 t) _ _)
  isplitl [H0]; · iexists _; iexact H0
  isplitl [H1]; · iexists _; iexact H1
  isplitl [H2]; · iexists _; iexact H2
  isplitl [H3]; · iexists _; iexact H3
  isplitl [H4]; · iexists _; iexact H4
  isplitl [S0]; · iexact S0
  isplitl [S1]; · iexact S1
  isplitl [S2]; · iexact S2
  iintro ⟨⟨%x0, H0⟩, ⟨%x1, H1⟩, ⟨%x2, H2⟩, ⟨%x3, H3⟩, ⟨%x4, H4⟩, S0, S1, S2⟩
  isplitl [S0 S1 S2 Hg]
  · isplitl [S0 S1 S2]
    · isplitl [S0]; · iexact S0
      isplitl [S1]; · iexact S1
      iexact S2
    iexact Hg
  isplitl [HO]; · iexact HO
  isplitl [H0]; · iexists x0; isplitr; (· ipureintro; exact trivial); iexact H0
  isplitl [H1]; · iexists x1; isplitr; (· ipureintro; exact trivial); iexact H1
  isplitl [H2]; · iexists x2; isplitr; (· ipureintro; exact trivial); iexact H2
  isplitl [H3]; · iexists x3; isplitr; (· ipureintro; exact trivial); iexact H3
  iexists x4; isplitr; (· ipureintro; exact trivial); iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation of the pipeline rule. -/
theorem body_obligation (c : Dev nD) :
    (rdat (F := F) m c).BodyObligation (defs₀ (F := F)) Variants.none () Set.univ := fun t Y _ => by
  rw [bigSep_W0, bigSep_W0, defs₀_row]
  exact triple_restated (sound_body m c t Y) rfl .rfl fun _ => .rfl

-- the launch theorem's implicit arguments are found by unifying its conclusion with this statement
set_option backward.isDefEq.respectTransparency.types false in
/-- Every weakly fair execution of the launch terminates, every buffer that is no window's array ends as the region found it, and
    every semaphore counter ends at zero. -/
theorem run_main :
    θ_run defs (onTc (τ := τ) (main (F := F))) (s₀ m ρ)
      (fun r => RDat.FramePost (cfgs 0) (fun c => rdat m c) (V m) r ∧ r.2.sem = fun _ => 0) :=
  RDat.θ_run_frame (Q' := _) cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := fun _ _ => rfl) (hΦ := fun _ _ => rfl)

/-- The frame: both argument arrays end as they began and every semaphore counter at zero. -/
theorem frame :
    θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (run_main m ρ).mono fun r h => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c)⟩, h.2⟩

end Cert.KernelIdeal.Hand

end
-- ==== Proof.Pieces.lean ====
/-
  What one trip of each of the kernel's three storing loops writes and yields, as a list over the 24 column chunks of the trip:
  one formula per chunk, in place of the 48 (or 24) stores spelt out one by one.
-/
module

public import proofs.«01_k».proof.Proof.Gen.KernelIdeal.Loops

@[expose] public section

noncomputable section

namespace Cert.KernelIdeal.Hand

open Cert.KernelIdeal Cert.KernelIdeal.Gen
open Idealize.ShloMosaic Idealize.ShloMosaic.TcCoe

/-- Apply `op · (f q)` for the chunks `q` below `n`, the first chunk first. -/
def foldQ {α β : Type} (op : α → β → α) (f : Fin 24 → β) (a : α) : (n : ℕ) → n ≤ 24 → α
  | 0, _ => a
  | n + 1, h => op (foldQ op f a n (Nat.le_of_succ_le h)) (f ⟨n, h⟩)

/-- The list of one element per chunk, the last chunk first. -/
def onePer {α : Type} (a : Fin 24 → α) : List α := foldQ (fun L q => a q :: L) (id : Fin 24 → Fin 24) [] 24 (le_refl 24)
/-- The list of two elements per chunk, the last chunk first, `b` before `a`. -/
def twoPer {α : Type} (a b : Fin 24 → α) : List α := foldQ (fun L q => b q :: a q :: L) (id : Fin 24 → Fin 24) [] 24 (le_refl 24)

/-- What `foldQ` accumulates, when each step adds elements to the list. -/
theorem mem_foldQ {α : Type} (op : List α → Fin 24 → List α) (P : Fin 24 → α → Prop) (hop : ∀ L q p, p ∈ op L q ↔ P q p ∨ p ∈ L) (p : α) :
    ∀ (n : ℕ) (h : n ≤ 24), p ∈ foldQ op (id : Fin 24 → Fin 24) [] n h ↔ ∃ q : Fin 24, q.val < n ∧ P q p
  | 0, _ => ⟨fun hp => absurd hp List.not_mem_nil, fun ⟨_, h, _⟩ => absurd h (Nat.not_lt_zero _)⟩
  | n + 1, h => by
    show p ∈ op _ (⟨n, h⟩ : Fin 24) ↔ _
    rw [hop, mem_foldQ op P hop p n (Nat.le_of_succ_le h)]
    constructor
    · rintro (h' | ⟨q, hq, h'⟩)
      · exact ⟨⟨n, h⟩, Nat.lt_succ_self n, h'⟩
      · exact ⟨q, Nat.lt_succ_of_lt hq, h'⟩
    · rintro ⟨q, hq, h'⟩
      by_cases e : q.val = n
      · left; rwa [show (⟨n, h⟩ : Fin 24) = q from Fin.ext e.symm]
      · right; exact ⟨q, by omega, h'⟩

/-- Membership in the list with one piece per index `q`. -/
theorem mem_onePer {α : Type} (a : Fin 24 → α) (p : α) : p ∈ onePer a ↔ ∃ q, p = a q := by
  unfold onePer
  rw [mem_foldQ _ (fun q p => p = a q) (fun L q p => List.mem_cons)]
  exact ⟨fun ⟨q, _, h⟩ => ⟨q, h⟩, fun ⟨q, h⟩ => ⟨q, q.isLt, h⟩⟩

/-- Membership in the list with two pieces per index `q`. -/
theorem mem_twoPer {α : Type} (a b : Fin 24 → α) (p : α) : p ∈ twoPer a b ↔ ∃ q, p = b q ∨ p = a q := by
  unfold twoPer
  rw [mem_foldQ _ (fun q p => p = b q ∨ p = a q) (fun L q p => by rw [List.mem_cons, List.mem_cons, or_assoc])]
  exact ⟨fun ⟨q, _, h⟩ => ⟨q, h⟩, fun ⟨q, h⟩ => ⟨q, q.isLt, h⟩⟩

/-- The part of `X` at a rectangle given by its offsets and sizes. -/
abbrev part {α : Type} {s : Shape} (X : s.Idx → α) (off sz : Fin s.rank → ℕ) (h : ∀ a, off a + sz a ≤ s.size a) :
    (Rect.unit (s := s) off sz h).toLoadRect.shape.Idx → α :=
  fun x => X ((Rect.unit (s := s) off sz h).toLoadRect.idx x)

/-! ## The loop of the maximum -/

variable (bit : IVec S8x128 32) (base : IVec S8x128 32)

/-- The index vector of the gather at trip `k`: the base plus four times the trip. -/
def idxAt (k : Fin k0_t1_loop.trips) : IVec S8x128 32 :=
  addi base (broadcast S8x128 (Scalar.muli 4#32 (Scf.iv 0#32 1#32 k)))

/-- A tile of the regrouped words lies inside its buffer. -/
theorem inbW (t : Fin 2) (q : Fin 24) : ∀ a, (![t.val, q.val, 0, 0] : Fin 4 → ℕ) a + S1x1x8x128.size a ≤ S2x24x8x128.size a := by
  revert t q; decide

/-- Chunk `q` of row tile 0 at trip `k`: the logits where the token's bit is set, `-∞` elsewhere. -/
def xmA (W : S2x24x8x128.Idx → BitVec 32) (X : S32x49152.Idx → EReal) (k : Fin k0_t1_loop.trips) (q : Fin 24) : FVec Ideal S16x128 .bf16 :=
  k0_pay463 (F := Ideal) bit (idxAt base k) (part W ![0, q.val, 0, 0] S1x1x8x128.size (inbW 0 q))
    (part X (k0_off1 k (BitVec.ofNat 32 (2048 * q.val))) S16x128.size (k0_off1_inb k q))
/-- Chunk `q` of row tile 1 at trip `k`. -/
def xmB (W : S2x24x8x128.Idx → BitVec 32) (X : S32x49152.Idx → EReal) (k : Fin k0_t1_loop.trips) (q : Fin 24) : FVec Ideal S16x128 .bf16 :=
  k0_pay463 (F := Ideal) bit (idxAt base k) (part W ![1, q.val, 0, 0] S1x1x8x128.size (inbW 1 q))
    (part X (k0_off2 k (BitVec.ofNat 32 (2048 * q.val))) S16x128.size (k0_off2_inb k q))

/-- The stores of trip `k`, the last first. -/
def pieces1 (W : S2x24x8x128.Idx → BitVec 32) (X : S32x49152.Idx → EReal) (k : Fin k0_t1_loop.trips) : List (View.Piece (Elt Ideal) S32x49152 .bf16) :=
  twoPer
    (fun q : Fin 24 =>
      ⟨Rect.unit (s := S32x49152) (k0_off1 k (BitVec.ofNat 32 (2048 * q.val))) S16x128.size (k0_off1_inb k q), shapeCast S16x128 (xmA bit base W X k q) shapeCasts_S16x128_S16x128⟩)
    (fun q : Fin 24 =>
      ⟨Rect.unit (s := S32x49152) (k0_off2 k (BitVec.ofNat 32 (2048 * q.val))) S16x128.size (k0_off2_inb k q), shapeCast S16x128 (xmB bit base W X k q) shapeCasts_S16x128_S16x128⟩)

/-! ## The regrouped mask words -/

/-- The low half-words of sixteen rows of 128 words, two rows to a word. -/
def loHalves (w : IVec S16x128 32) : IVec S8x128 32 :=
  bitcast S8x128 32 (trunci 16 (shapeCast S16x128 w shapeCasts_S16x128_S16x128) natLt_16_32) bitcasts_S16x128_w16_S8x128_w32
/-- Their high half-words, two rows to a word. -/
def hiHalves (w : IVec S16x128 32) : IVec S8x128 32 :=
  bitcast S8x128 32 (trunci 16 (shrsi (shapeCast S16x128 w shapeCasts_S16x128_S16x128) (broadcast S16x128 16#32)) natLt_16_32) bitcasts_S16x128_w16_S8x128_w32
/-- The lane number. -/
def laneNo : IVec S8x128 32 := iota .tc S8x128 32 [1] iota_S8x128_d1_w32
/-- The lanes of the first half. -/
def firstHalf : IVec S8x128 1 := cmpi .slt laneNo (broadcast S8x128 64#32)
/-- The regrouped words of an even group: low half-words in the first 64 lanes, the high half-words of the same words after them. -/
def evenGroup (w : IVec S16x128 32) : IVec S1x1x8x128 32 :=
  shapeCast S1x1x8x128 (select firstHalf (loHalves w) (dynamicRotate 1 64#32 none (hiHalves w) rotates_S8x128_d1)) shapeCasts_S8x128_S1x1x8x128
/-- The regrouped words of an odd group: those of the last 64 words. -/
def oddGroup (w : IVec S16x128 32) : IVec S1x1x8x128 32 :=
  shapeCast S1x1x8x128 (select firstHalf (dynamicRotate 1 64#32 none (loHalves w) rotates_S8x128_d1) (hiHalves w)) shapeCasts_S8x128_S1x1x8x128

/-- Words `128 j … 128 j + 127` of row tile `t` lie inside the block, for `s = 12 t + j`. -/
theorem inbWords (s : Fin 24) : ∀ a, (![16 * (s.val / 12), 128 * (s.val % 12)] : Fin 2 → ℕ) a + S16x128.size a ≤ S32x1536.size a := by
  revert s; decide
/-- The even group of that tile and word range lies inside the regrouped words. -/
theorem inbEven (s : Fin 24) : ∀ a, (![s.val / 12, 2 * (s.val % 12), 0, 0] : Fin 4 → ℕ) a + S1x1x8x128.size a ≤ S2x24x8x128.size a := by
  revert s; decide
/-- The odd group likewise. -/
theorem inbOdd (s : Fin 24) : ∀ a, (![s.val / 12, 2 * (s.val % 12) + 1, 0, 0] : Fin 4 → ℕ) a + S1x1x8x128.size a ≤ S2x24x8x128.size a := by
  revert s; decide

/-- The stores of the regrouped words, the last first. -/
def pieces0 (W : S32x1536.Idx → BitVec 32) : List (View.Piece (Elt Ideal) S2x24x8x128 .i32) :=
  twoPer
    (fun s : Fin 24 =>
      ⟨Rect.unit (s := S2x24x8x128) ![s.val / 12, 2 * (s.val % 12), 0, 0] S1x1x8x128.size (inbEven s),
      evenGroup (part W ![16 * (s.val / 12), 128 * (s.val % 12)] S16x128.size (inbWords s))⟩)
    (fun s : Fin 24 =>
      ⟨Rect.unit (s := S2x24x8x128) ![s.val / 12, 2 * (s.val % 12) + 1, 0, 0] S1x1x8x128.size (inbOdd s),
      oddGroup (part W ![16 * (s.val / 12), 128 * (s.val % 12)] S16x128.size (inbWords s))⟩)

/-! ## The loop of the exponentials -/

/-- The exponentials of one 16-row chunk, from its masked logits `x` and its rows' maxima `mx` (already divided by the temperature). -/
def expChunk (mx : FVec Ideal S16x128 .f32) (x : Vec Ideal S16x128 .bf16) : FVec Ideal S16x128 .f32 :=
  exp2 (mulf (subf (mulf (extf .f32 x bitsLt_bf16_f32)
    (broadcast S16x128 (Scalar.ofBits (F := Ideal) .f32 0x3FA00000#32))) mx)
    (broadcast S16x128 (Named.named (F := Ideal) κ "log2_e" 0x3FB8AA3B#32)))

/-- Chunk `q` of row tile 0 at trip `k`. -/
def exA (mA : FVec Ideal S16x128 .f32) (XM : S32x49152.Idx → EReal) (k : Fin k0_t2_loop.trips) (q : Fin 24) : FVec Ideal S16x128 .f32 :=
  expChunk mA (part XM (k0_off3 k (BitVec.ofNat 32 (2048 * q.val))) S16x128.size (k0_off3_inb k q))
/-- Chunk `q` of row tile 1 at trip `k`. -/
def exB (mB : FVec Ideal S16x1 .f32) (XM : S32x49152.Idx → EReal) (k : Fin k0_t2_loop.trips) (q : Fin 24) : FVec Ideal S16x128 .f32 :=
  expChunk (k0_pay468 mB) (part XM (k0_off4 k (BitVec.ofNat 32 (2048 * q.val))) S16x128.size (k0_off4_inb k q))

/-- The stores of trip `k`, the last first. -/
def pieces2 (mA : FVec Ideal S16x128 .f32) (mB : FVec Ideal S16x1 .f32) (XM : S32x49152.Idx → EReal) (k : Fin k0_t2_loop.trips) :
    List (View.Piece (Elt Ideal) S32x49152 .f32) :=
  twoPer
    (fun q : Fin 24 =>
      ⟨Rect.unit (s := S32x49152) (k0_off3 k (BitVec.ofNat 32 (2048 * q.val))) S16x128.size (k0_off3_inb k q), shapeCast S16x128 (exA mA XM k q) shapeCasts_S16x128_S16x128⟩)
    (fun q : Fin 24 =>
      ⟨Rect.unit (s := S32x49152) (k0_off4 k (BitVec.ofNat 32 (2048 * q.val))) S16x128.size (k0_off4_inb k q), shapeCast S16x128 (exB mB XM k q) shapeCasts_S16x128_S16x128⟩)

/-! ## The loop of the codes -/

/-- The factor of the codes: one over the sum, times the reciprocal power of two of the exponent counts `n`. -/
def codeFactor (s0 s1 : FVec Ideal S16x128 .f32) (n : IVec S32x128 32) : FVec Ideal S32x128 .f32 :=
  mulf (divf (broadcast S32x128 (Scalar.ofBits (F := Ideal) .f32 0x3F800000#32)) (k0_pay473 s0 s1))
    (bitcastToFloat .f32 (shli (subi (broadcast S32x128 253#32) n) (broadcast S32x128 23#32)))

/-- The codes of chunk `q` at trip `k`: the exponentials times the factor, cut to [0, 448]. -/
def codeChunk (fac : FVec Ideal S32x128 .f32) (E : S32x49152.Idx → EReal) (k : Fin k0_t4_loop.trips) (q : Fin 24) : FVec Ideal S32x128 .fp8e4m3 :=
  truncf .fp8e4m3 (minimumf (broadcast S32x128 (Scalar.ofBits (F := Ideal) .f32 0x43E00000#32))
    (maximumf (broadcast S32x128 (Scalar.ofBits (F := Ideal) .f32 0x00000000#32))
      (mulf (part E (k0_off5 k (BitVec.ofNat 32 (2048 * q.val))) S32x128.size (k0_off5_inb k q)) fac))) bitsLt_fp8e4m3_f32

/-- The stores of trip `k`, the last first. -/
def pieces4 (fac : FVec Ideal S32x128 .f32) (E : S32x49152.Idx → EReal) (k : Fin k0_t4_loop.trips) :
    List (View.Piece (Elt Ideal) S32x49152 .fp8e4m3) :=
  onePer (fun q : Fin 24 =>
    ⟨Rect.unit (s := S32x49152) (k0_off5 k (BitVec.ofNat 32 (2048 * q.val))) S32x128.size (k0_off5_inb k q), codeChunk fac E k q⟩)

section Bridge
variable (c : Dev nD) (i : grid0.Coords) (arg1 : Memref sig .tc .vmem S32x49152 .bf16) (harg1 : arg1.IsWhole) (arg2 : Memref sig .tc .vmem S32x1536 .i32) (harg2 : arg2.IsWhole) (arg3 : Memref sig .tc .vmem S32x49152 .fp8e4m3) (harg3 : arg3.IsWhole) (arg4 : Memref sig .tc .vmem S12x128 .f32) (harg4 : arg4.IsWhole) (arg5 : Memref sig .tc .vmem S12x128 .f32) (harg5 : arg5.IsWhole) (arg6 : Memref sig .tc .vmem S2x24x8x128 .i32) (harg6 : arg6.IsWhole) (arg7 : Memref sig .tc .vmem S32x49152 .bf16) (harg7 : arg7.IsWhole) (arg8 : Memref sig .tc .vmem S32x49152 .f32) (harg8 : arg8.IsWhole)
  (v0 v441 v465 v466 : IVec S8x128 32) (c16 : BitVec 32) (X1 : BufTy.Contents (Elt Ideal) arg1.view.ty) (X6 : BufTy.Contents (Elt Ideal) arg6.view.ty)

/-- What a trip of the loop of the maximum writes. -/
theorem tripL1_eq (k : Fin k0_t1_loop.trips) (acc : FVec Ideal S16x128 .bf16 × FVec Ideal S16x128 .bf16) :
    tripL_k0_t1 (F := Ideal) Variants.none c none i arg1 harg1 arg2 harg2 arg3 harg3 arg4 harg4 arg5 harg5 arg6 harg6 arg7 harg7 arg8 harg8 v0 v441 v465 c16 v466 X1 X6 k acc
      = pieces1 v441 (k0_pay461 v0 v465 c16 v466) (arg6.view.read (Elt Ideal) X6) (arg1.view.read (Elt Ideal) X1) k := by
  unfold tripL_k0_t1 trip_k0_t1; rfl

/-- What it yields: the two running maxima taken with the trip's chunks. -/
theorem tripR1_eq (k : Fin k0_t1_loop.trips) (acc : FVec Ideal S16x128 .bf16 × FVec Ideal S16x128 .bf16) :
    tripR_k0_t1 (F := Ideal) Variants.none c none i arg1 harg1 arg2 harg2 arg3 harg3 arg4 harg4 arg5 harg5 arg6 harg6 arg7 harg7 arg8 harg8 v0 v441 v465 c16 v466 X1 X6 k acc
      = (foldQ maximumf (xmA v441 (k0_pay461 v0 v465 c16 v466) (arg6.view.read (Elt Ideal) X6) (arg1.view.read (Elt Ideal) X1) k) acc.1 24 (le_refl 24),
         foldQ maximumf (xmB v441 (k0_pay461 v0 v465 c16 v466) (arg6.view.read (Elt Ideal) X6) (arg1.view.read (Elt Ideal) X1) k) acc.2 24 (le_refl 24)) := by
  unfold tripR_k0_t1 trip_k0_t1; rfl
variable (v504 : FVec Ideal S16x128 .f32) (v509 : FVec Ideal S16x1 .f32) (arg0 : BitVec 32)
  (X7 : BufTy.Contents (Elt Ideal) arg7.view.ty) (X8 : BufTy.Contents (Elt Ideal) arg8.view.ty)

/-- What a trip of the loop of the exponentials writes. -/
theorem tripL2_eq (k : Fin k0_t2_loop.trips) (acc : FVec Ideal S16x128 .f32 × FVec Ideal S16x128 .f32) :
    tripL_k0_t2 (F := Ideal) Variants.none c none i arg1 harg1 arg2 harg2 arg3 harg3 arg4 harg4 arg5 harg5 arg6 harg6 arg7 harg7 arg8 harg8 arg0 v504 v509 X7 k acc
      = pieces2 v504 v509 (arg7.view.read (Elt Ideal) X7) k := by
  unfold tripL_k0_t2 trip_k0_t2; rfl

/-- What it yields: the two running sums with the trip's chunks added. -/
theorem tripR2_eq (k : Fin k0_t2_loop.trips) (acc : FVec Ideal S16x128 .f32 × FVec Ideal S16x128 .f32) :
    tripR_k0_t2 (F := Ideal) Variants.none c none i arg1 harg1 arg2 harg2 arg3 harg3 arg4 harg4 arg5 harg5 arg6 harg6 arg7 harg7 arg8 harg8 arg0 v504 v509 X7 k acc
      = (foldQ addf (exA v504 (arg7.view.read (Elt Ideal) X7) k) acc.1 24 (le_refl 24),
         foldQ addf (exB v509 (arg7.view.read (Elt Ideal) X7) k) acc.2 24 (le_refl 24)) := by
  unfold tripR_k0_t2 trip_k0_t2; rfl

/-- What a trip of the loop of the codes writes. -/
theorem tripL4_eq (s0 s1 : FVec Ideal S16x128 .f32) (n : IVec S32x128 32) (k : Fin k0_t4_loop.trips) :
    tripL_k0_t4 (F := Ideal) Variants.none c none i arg1 harg1 arg2 harg2 arg3 harg3 arg4 harg4 arg5 harg5 arg6 harg6 arg7 harg7 arg8 harg8 arg0 v504 v509 s0 s1 n X8 k
      = pieces4 (codeFactor s0 s1 n) (arg8.view.read (Elt Ideal) X8) k := by
  unfold tripL_k0_t4 trip_k0_t4; rfl
end Bridge

end Cert.KernelIdeal.Hand

end
-- ==== Proof.Mask.lean ====
/-
  The permitted tokens: the kernel's regrouped half-words and rotated lanes hold, for row `r` and token `v`, bit `v % 32` of
  word `v / 32` of the row.
-/
module

public import proofs.«01_k».proof.Proof.Pieces
public import Idealize.ShloMosaic.Lib.BitcastPair
public import Idealize.ShloMosaic.Lib.Writes
public import Idealize.ShloMosaic.Lib.Pipeline.Value

@[expose] public section

noncomputable section

namespace Cert.KernelIdeal.Hand

open Cert.KernelIdeal Cert.KernelIdeal.Gen
open Idealize.ShloMosaic Idealize.ShloMosaic.TcCoe

/-- The index of row `r` and column `c`. -/
def at2 {m n : ℕ} (r : Fin m) (c : Fin n) : (⟨2, ![m, n]⟩ : Shape).Idx := fun a => match a with
  | 0 => r
  | 1 => c

/-- Every index of two axes is `at2` of its coordinates. -/
theorem at2_eta {m n : ℕ} (y : (⟨2, ![m, n]⟩ : Shape).Idx) : at2 (y 0) (y 1) = y := by
  funext a; match a with
  | 0 => rfl
  | 1 => rfl

/-- An index of two axes is known by its two coordinates. -/
theorem eq_at2 {m n : ℕ} (y : (⟨2, ![m, n]⟩ : Shape).Idx) (r : Fin m) (c : Fin n) (h0 : (y 0).val = r.val) (h1 : (y 1).val = c.val) :
    y = at2 r c := by
  funext a; apply Fin.ext; match a with
  | 0 => exact h0
  | 1 => exact h1

/-- The index of a regrouped word: tile, group, word row, lane. -/
def at4 (t : Fin 2) (q : Fin 24) (i : Fin 8) (c : Fin 128) : S2x24x8x128.Idx := fun a => match a with
  | 0 => t
  | 1 => q
  | 2 => i
  | 3 => c

/-- An index of four axes is known by its coordinates. -/
theorem eq_at4 (y : S2x24x8x128.Idx) (t : Fin 2) (q : Fin 24) (i : Fin 8) (c : Fin 128) (h0 : (y 0).val = t.val) (h1 : (y 1).val = q.val)
    (h2 : (y 2).val = i.val) (h3 : (y 3).val = c.val) : y = at4 t q i c := by
  funext a; apply Fin.ext; match a with
  | 0 => exact h0
  | 1 => exact h1
  | 2 => exact h2
  | 3 => exact h3

/-- Half `h` of a 32-bit word: the low one for 0, the high one for 1. -/
def half (w : BitVec 32) (h : ℕ) : BitVec 16 := w.extractLsb' (16 * h) 16

/-- The regrouped words as a function of the index: at tile `t`, group `q`, word row `i` and lane `c`, the halves `c / 64` of word
    `64 q + c % 64` of rows `16 t + 2 i` (below) and `16 t + 2 i + 1` (above). -/
def words (W : S32x1536.Idx → BitVec 32) : S2x24x8x128.Idx → BitVec 32 := fun y =>
  have h0 : (y 0).val < 2 := (y 0).isLt
  have h1 : (y 1).val < 24 := (y 1).isLt
  have h2 : (y 2).val < 8 := (y 2).isLt
  have h3 : (y 3).val < 128 := (y 3).isLt
  half (W (at2 ⟨16 * (y 0).val + 2 * (y 2).val + 1, by omega⟩ ⟨64 * (y 1).val + (y 3).val % 64, by omega⟩)) ((y 3).val / 64)
    ++ half (W (at2 ⟨16 * (y 0).val + 2 * (y 2).val, by omega⟩ ⟨64 * (y 1).val + (y 3).val % 64, by omega⟩)) ((y 3).val / 64)

/-- The low half of a word. -/
theorem setWidth_half (w : BitVec 32) : w.setWidth 16 = half w 0 := by
  unfold half; ext i hi; simp

/-- The high half of a word. -/
theorem sshiftRight_half (w : BitVec 32) : (w.sshiftRight 16).setWidth 16 = half w 1 := by
  unfold half; ext i hi
  simp only [BitVec.getElem_setWidth, BitVec.getLsbD_sshiftRight, BitVec.getElem_extractLsb']
  have : 16 + i < 32 := by omega
  simp [this]; omega

/-- The low halves at a word row and lane. -/
theorem loHalves_at (w : IVec S16x128 32) (i : Fin 8) (c : Fin 128) :
    loHalves w (at2 i c) = half (w (at2 ⟨2 * i.val + 1, by omega⟩ c)) 0 ++ half (w (at2 ⟨2 * i.val, by omega⟩ c)) 0 := by
  unfold loHalves
  rw [bitcast_16_32]
  rw [← setWidth_half, ← setWidth_half]
  have e (p : ℕ) (hp : p < 16) (hp') : bitcasts_S16x128_w16_S8x128_w32.srcIdx (at2 i c) p hp' = at2 ⟨p, hp⟩ c := by
    apply eq_at2
    · exact Shape.Bitcasts.srcIdx_row _ _ _ _ _ rfl
    · exact Shape.Bitcasts.srcIdx_other _ _ _ _ _ (by decide)
  have hr : (S8x128).row (at2 i c) = i.val := rfl
  rw [e _ (by rw [hr]; omega), e _ (by rw [hr]; omega), shapeCast_self]
  rfl

/-- The high halves at a word row and lane. -/
theorem hiHalves_at (w : IVec S16x128 32) (i : Fin 8) (c : Fin 128) :
    hiHalves w (at2 i c) = half (w (at2 ⟨2 * i.val + 1, by omega⟩ c)) 1 ++ half (w (at2 ⟨2 * i.val, by omega⟩ c)) 1 := by
  unfold hiHalves
  rw [bitcast_16_32]
  rw [← sshiftRight_half, ← sshiftRight_half]
  have e (p : ℕ) (hp : p < 16) (hp') : bitcasts_S16x128_w16_S8x128_w32.srcIdx (at2 i c) p hp' = at2 ⟨p, hp⟩ c := by
    apply eq_at2
    · exact Shape.Bitcasts.srcIdx_row _ _ _ _ _ rfl
    · exact Shape.Bitcasts.srcIdx_other _ _ _ _ _ (by decide)
  have hr : (S8x128).row (at2 i c) = i.val := rfl
  rw [e _ (by rw [hr]; omega), e _ (by rw [hr]; omega), shapeCast_self]
  rfl

/-- The rotation by half the lanes. -/
theorem rotate_at {α : Type} (x : S8x128.Idx → α) (i : Fin 8) (c : Fin 128) :
    dynamicRotate 1 64#32 none x rotates_S8x128_d1 (at2 i c) = x (at2 i ⟨(c.val + 64) % 128, by omega⟩) := by
  unfold dynamicRotate
  refine congrArg x (eq_at2 _ _ _ rfl ?_)
  show (c.val + 128 - 64 % 128) % 128 = (c.val + 64) % 128
  omega

/-- The lane number at an index. -/
theorem laneNo_at (i : Fin 8) (c : Fin 128) : laneNo (at2 i c) = BitVec.ofNat 32 c.val := by
  show BitVec.ofNat 32 (0 * 128 + c.val) = _
  rw [Nat.zero_mul, Nat.zero_add]

/-- The first 64 lanes of the 128. -/
theorem firstHalf_at (i : Fin 8) (c : Fin 128) : firstHalf (at2 i c) = if c.val < 64 then 1#1 else 0#1 := by
  show Scalar.cmpi .slt (laneNo (at2 i c)) 64#32 = _
  rw [laneNo_at]; revert c; decide +kernel

/-- An even group's word at a word row and lane. -/
theorem evenGroup_at (w : IVec S16x128 32) (i : Fin 8) (c : Fin 128) (x : S1x1x8x128.Idx)
    (h2 : (x 2).val = i.val) (h3 : (x 3).val = c.val) :
    evenGroup w x = half (w (at2 ⟨2 * i.val + 1, by omega⟩ ⟨c.val % 64, by omega⟩)) (c.val / 64)
      ++ half (w (at2 ⟨2 * i.val, by omega⟩ ⟨c.val % 64, by omega⟩)) (c.val / 64) := by
  unfold evenGroup
  rw [shapeCast_apply _ _ x (at2 i c) (by
    have h0 : (x 0).val < 1 := (x 0).isLt
    have h1 : (x 1).val < 1 := (x 1).isLt
    rw [Shape.rowMajor_val_two, Shape.rowMajor_val_four]
    show i.val * 128 + c.val = (((x 0).val * 1 + (x 1).val) * 8 + (x 2).val) * 128 + (x 3).val
    omega)]
  show Scalar.select (firstHalf (at2 i c)) _ _ = _
  rw [firstHalf_at, rotate_at, loHalves_at, hiHalves_at]
  by_cases h : c.val < 64
  · rw [if_pos h]
    have e1 : c.val / 64 = 0 := by omega
    have e2 : (⟨c.val % 64, by omega⟩ : Fin 128) = c := Fin.ext (by show c.val % 64 = c.val; omega)
    rw [e1, e2]; rfl
  · rw [if_neg h]
    have e1 : c.val / 64 = 1 := by omega
    have e2 : (⟨(c.val + 64) % 128, by omega⟩ : Fin 128) = ⟨c.val % 64, by omega⟩ := Fin.ext (by show (c.val + 64) % 128 = c.val % 64; omega)
    rw [e1, e2]; rfl

/-- An odd group's word at a word row and lane. -/
theorem oddGroup_at (w : IVec S16x128 32) (i : Fin 8) (c : Fin 128) (x : S1x1x8x128.Idx)
    (h2 : (x 2).val = i.val) (h3 : (x 3).val = c.val) :
    oddGroup w x = half (w (at2 ⟨2 * i.val + 1, by omega⟩ ⟨64 + c.val % 64, by omega⟩)) (c.val / 64)
      ++ half (w (at2 ⟨2 * i.val, by omega⟩ ⟨64 + c.val % 64, by omega⟩)) (c.val / 64) := by
  unfold oddGroup
  rw [shapeCast_apply _ _ x (at2 i c) (by
    have h0 : (x 0).val < 1 := (x 0).isLt
    have h1 : (x 1).val < 1 := (x 1).isLt
    rw [Shape.rowMajor_val_two, Shape.rowMajor_val_four]
    show i.val * 128 + c.val = (((x 0).val * 1 + (x 1).val) * 8 + (x 2).val) * 128 + (x 3).val
    omega)]
  show Scalar.select (firstHalf (at2 i c)) _ _ = _
  rw [firstHalf_at, rotate_at, loHalves_at, hiHalves_at]
  by_cases h : c.val < 64
  · rw [if_pos h]
    have e1 : c.val / 64 = 0 := by omega
    have e2 : (⟨(c.val + 64) % 128, by omega⟩ : Fin 128) = ⟨64 + c.val % 64, by omega⟩ := Fin.ext (by show (c.val + 64) % 128 = 64 + c.val % 64; omega)
    rw [e1, e2]; rfl
  · rw [if_neg h]
    have e1 : c.val / 64 = 1 := by omega
    have e2 : (⟨64 + c.val % 64, by omega⟩ : Fin 128) = c := Fin.ext (by show 64 + c.val % 64 = c.val; omega)
    rw [e1, e2]; rfl

/-- The regrouped words at an index with known coordinates. -/
theorem words_at (W : S32x1536.Idx → BitVec 32) (y : S2x24x8x128.Idx) (t : Fin 2) (q : Fin 24) (i : Fin 8) (c : Fin 128)
    (h0 : (y 0).val = t.val) (h1 : (y 1).val = q.val) (h2 : (y 2).val = i.val) (h3 : (y 3).val = c.val) :
    words W y = half (W (at2 ⟨16 * t.val + 2 * i.val + 1, by omega⟩ ⟨64 * q.val + c.val % 64, by omega⟩)) (c.val / 64)
      ++ half (W (at2 ⟨16 * t.val + 2 * i.val, by omega⟩ ⟨64 * q.val + c.val % 64, by omega⟩)) (c.val / 64) := by
  obtain rfl := eq_at4 y t q i c h0 h1 h2 h3; rfl

/-- A part of the words at an index. -/
theorem part_at {α : Type} {m n k l : ℕ} (X : (⟨2, ![m, n]⟩ : Shape).Idx → α) (o₀ o₁ : ℕ) (off : Fin 2 → ℕ) (e₀ : off 0 = o₀) (e₁ : off 1 = o₁)
    (h : ∀ a, off a + (⟨2, ![k, l]⟩ : Shape).size a ≤ (⟨2, ![m, n]⟩ : Shape).size a) (r : Fin k) (c : Fin l)
    (r' : Fin m) (c' : Fin n) (hr : r'.val = o₀ + r.val) (hc : c'.val = o₁ + c.val) :
    part X off (⟨2, ![k, l]⟩ : Shape).size h (at2 r c) = X (at2 r' c') := by
  refine congrArg X (eq_at2 _ _ _ ?_ ?_)
  · rw [LoadRect.idx_apply]
    show off 0 + 1 * r.val = r'.val
    omega
  · rw [LoadRect.idx_apply]
    show off 1 + 1 * c.val = c'.val
    omega

/-- Every store of the regrouped words is the part of `words W` its rectangle names. -/
theorem pieces0_agree (W : S32x1536.Idx → BitVec 32) :
    ∀ p ∈ pieces0 W, ∀ x : p.1.shape.Idx, p.2 x = words W (p.1.emb x) := by
  intro p hp
  obtain ⟨s, hp⟩ := (mem_twoPer _ _ _).mp hp
  have hs : s.val < 24 := s.isLt
  rcases hp with rfl | rfl
  · intro x
    have h0 : (x 0).val < 1 := (x 0).isLt
    have h1 : (x 1).val < 1 := (x 1).isLt
    have h2 : (x 2).val < 8 := (x 2).isLt
    have h3 : (x 3).val < 128 := (x 3).isLt
    refine (oddGroup_at _ ⟨(x 2).val, h2⟩ ⟨(x 3).val, h3⟩ x rfl rfl).trans ?_
    rw [words_at W _ ⟨s.val / 12, by omega⟩ ⟨2 * (s.val % 12) + 1, by omega⟩ ⟨(x 2).val, h2⟩ ⟨(x 3).val, h3⟩
      (by show s.val / 12 + 1 * (x 0).val = s.val / 12; omega) (by show 2 * (s.val % 12) + 1 + 1 * (x 1).val = 2 * (s.val % 12) + 1; omega)
      (by show 0 + 1 * (x 2).val = (x 2).val; omega) (by show 0 + 1 * (x 3).val = (x 3).val; omega)]
    congr 2 <;> refine part_at W (16 * (s.val / 12)) (128 * (s.val % 12)) _ rfl rfl _ _ _ _ _ ?_ ?_ <;> dsimp only <;> omega
  · intro x
    have h0 : (x 0).val < 1 := (x 0).isLt
    have h1 : (x 1).val < 1 := (x 1).isLt
    have h2 : (x 2).val < 8 := (x 2).isLt
    have h3 : (x 3).val < 128 := (x 3).isLt
    refine (evenGroup_at _ ⟨(x 2).val, h2⟩ ⟨(x 3).val, h3⟩ x rfl rfl).trans ?_
    rw [words_at W _ ⟨s.val / 12, by omega⟩ ⟨2 * (s.val % 12), by omega⟩ ⟨(x 2).val, h2⟩ ⟨(x 3).val, h3⟩
      (by show s.val / 12 + 1 * (x 0).val = s.val / 12; omega) (by show 2 * (s.val % 12) + 1 * (x 1).val = 2 * (s.val % 12); omega)
      (by show 0 + 1 * (x 2).val = (x 2).val; omega) (by show 0 + 1 * (x 3).val = (x 3).val; omega)]
    congr 2 <;> refine part_at W (16 * (s.val / 12)) (128 * (s.val % 12)) _ rfl rfl _ _ _ _ _ ?_ ?_ <;> dsimp only <;> omega

/-- The stores of the regrouped words cover them. -/
theorem pieces0_cover (W : S32x1536.Idx → BitVec 32) (y : S2x24x8x128.Idx) : ∃ p ∈ pieces0 W, y ∈ p.1.set := by
  have h0 : (y 0).val < 2 := (y 0).isLt
  have h1 : (y 1).val < 24 := (y 1).isLt
  have h2 : (y 2).val < 8 := (y 2).isLt
  have h3 : (y 3).val < 128 := (y 3).isLt
  let s : Fin 24 := ⟨12 * (y 0).val + (y 1).val / 2, by omega⟩
  by_cases e : (y 1).val % 2 = 0
  · refine ⟨_, (mem_twoPer _ _ _).mpr ⟨s, .inr rfl⟩, ?_⟩
    rw [Rect.mem_set_unit]
    intro a; match a with
    | 0 => show (12 * (y 0).val + (y 1).val / 2) / 12 ≤ (y 0).val ∧ (y 0).val < (12 * (y 0).val + (y 1).val / 2) / 12 + 1; omega
    | 1 => show 2 * ((12 * (y 0).val + (y 1).val / 2) % 12) ≤ (y 1).val ∧ (y 1).val < 2 * ((12 * (y 0).val + (y 1).val / 2) % 12) + 1; omega
    | 2 => show 0 ≤ (y 2).val ∧ (y 2).val < 0 + 8; omega
    | 3 => show 0 ≤ (y 3).val ∧ (y 3).val < 0 + 128; omega
  · refine ⟨_, (mem_twoPer _ _ _).mpr ⟨s, .inl rfl⟩, ?_⟩
    rw [Rect.mem_set_unit]
    intro a; match a with
    | 0 => show (12 * (y 0).val + (y 1).val / 2) / 12 ≤ (y 0).val ∧ (y 0).val < (12 * (y 0).val + (y 1).val / 2) / 12 + 1; omega
    | 1 => show 2 * ((12 * (y 0).val + (y 1).val / 2) % 12) + 1 ≤ (y 1).val ∧ (y 1).val < 2 * ((12 * (y 0).val + (y 1).val / 2) % 12) + 1 + 1; omega
    | 2 => show 0 ≤ (y 2).val ∧ (y 2).val < 0 + 8; omega
    | 3 => show 0 ≤ (y 3).val ∧ (y 3).val < 0 + 128; omega

/-! ## One chunk of masked logits -/

/-- Bit `v % 32` of word `v / 32` of a row: whether token `v` is permitted. -/
def permitted (W : S32x1536.Idx → BitVec 32) (r : Fin 32) (v : Fin 49152) : Bool :=
  (W (at2 r ⟨v.val / 32, by omega⟩)).getLsbD (v.val % 32)

/-- The masked logits: the logit where the token is permitted, `-∞` elsewhere. -/
def masked (W : S32x1536.Idx → BitVec 32) (X : S32x49152.Idx → EReal) (r : Fin 32) (v : Fin 49152) : EReal :=
  if permitted W r v then X (at2 r v) else ⊥

/-- The bit of each half-word that a lane reads, in both halves of a word. -/
def laneBit : IVec S8x128 32 := k0_pay458 laneNo
/-- The lane a lane reads at trip 0. -/
def baseLane : IVec S8x128 32 := k0_pay461 laneNo (k0_pay459 laneNo) 16#32 k0_pay460

/-- Lane `c` tests bit `c % 16` of each half of the word it reads. -/
theorem laneBit_at (i : Fin 8) (c : Fin 128) (h : Fin 2) :
    (laneBit (at2 i c)).extractLsb' (16 * h.val) 16 = BitVec.twoPow 16 (c.val % 16) := by
  revert i c h; decide +kernel

/-- The lane from which lane `c` reads at trip 0. -/
theorem baseLane_at (i : Fin 8) (c : Fin 128) : baseLane (at2 i c) = BitVec.ofNat 32 (c.val / 32 + 64 * (c.val / 16 % 2)) := by
  revert i c; decide +kernel

/-- The loop of the masks runs its 16 trips in order. -/
theorem trips1 : k0_t1_loop.trips = 16 := by decide +kernel

/-- The shift of the lanes read at trip `k`. -/
theorem step1 (k : Fin 16) : Scalar.muli 4#32 (Scf.iv 0#32 1#32 (k.cast trips1.symm)) = BitVec.ofNat 32 (4 * k.val) := by
  revert k; decide +kernel

/-- The lane of the regrouped words that lane `c` reads at trip `k`. -/
def readLane (k : ℕ) (c : ℕ) : ℕ := c / 32 + 64 * (c / 16 % 2) + 4 * k

/-- The gather at trip `k` reads lane `readLane k c` at lane `c`. -/
theorem idxAt_at (k : Fin k0_t1_loop.trips) (i : Fin 8) (c : Fin 128) : idxAt baseLane k (at2 i c) = BitVec.ofNat 32 (readLane k.val c.val) := by
  show baseLane (at2 i c) + Scalar.muli 4#32 (Scf.iv 0#32 1#32 k) = _
  have e : Scalar.muli 4#32 (Scf.iv 0#32 1#32 k) = BitVec.ofNat 32 (4 * k.val) := step1 (k.cast trips1)
  rw [baseLane_at, e, ← BitVec.ofNat_add]; rfl

/-- A lane number is not negative, so the gather does not wrap it. -/
theorem idx_wrap (n : ℕ) (h : n < 128) : Scalar.select (Scalar.cmpi .slt (BitVec.ofNat 32 n) 0#32) (BitVec.ofNat 32 n + 128#32) (BitVec.ofNat 32 n) = BitVec.ofNat 32 n := by
  have : ∀ n : Fin 128, Scalar.select (Scalar.cmpi .slt (BitVec.ofNat 32 n.val) 0#32) (BitVec.ofNat 32 n.val + 128#32) (BitVec.ofNat 32 n.val) = BitVec.ofNat 32 n.val := by
    decide +kernel
  exact this ⟨n, h⟩

/-- The value of a token that is not permitted is `-∞`. -/
theorem k0_pay462_at (r : Fin 16) (l : Fin 128) : k0_pay462 (F := Ideal) (at2 r l) = ⊥ := by
  show Ideal.ofBits .bf16 0xFF80#16 = ⊥
  simp [Ideal.ofBits, Ideal.ieee]

/-- A power of two of 16 bits is not zero. -/
theorem twoPow_ne (n : Fin 16) : Scalar.cmpi .ne (BitVec.twoPow 16 n.val) 0#16 = 1#1 := by
  revert n; decide +kernel

/-- One chunk of masked logits at row `r` and lane `l`, from the regrouped words `w` its group and tile. -/
theorem chunk_at (k : Fin k0_t1_loop.trips) (w : IVec S1x1x8x128 32) (x : FVec Ideal S16x128 .bf16) (r : Fin 16) (l : Fin 128)
    (y : S1x1x8x128.Idx) (h0 : (y 0).val = 0) (h1 : (y 1).val = 0) (h2 : (y 2).val = r.val / 2) (h3 : (y 3).val = readLane k.val l.val) :
    k0_pay463 (F := Ideal) laneBit (idxAt baseLane k) w x (at2 r l)
      = if ((w y).extractLsb' (16 * (r.val % 2)) 16).getLsbD (l.val % 16) then x (at2 r l) else ⊥ := by
  have hk : k.val < 16 := lt_of_lt_of_eq k.isLt trips1
  have hL : readLane k.val l.val < 128 := by unfold readLane; omega
  unfold k0_pay463
  show Scalar.select (Scalar.cmpi .ne (bitcast S16x128 16 (andi (dynamicGather 1 _ _) laneBit) _ (at2 r l)) 0#16) (shapeCast S16x128 x _ (at2 r l)) (k0_pay462 (at2 r l)) = _
  rw [shapeCast_self, bitcast_32_16]
  have e (p : ℕ) (hp : p < 8) (hp') : bitcasts_S8x128_w32_S16x128_w16.srcIdx (at2 r l) p hp' = at2 ⟨p, hp⟩ l := by
    apply eq_at2
    · exact Shape.Bitcasts.srcIdx_row _ _ _ _ _ rfl
    · exact Shape.Bitcasts.srcIdx_other _ _ _ _ _ (by decide)
  have hr : (S16x128).row (at2 r l) = r.val := rfl
  rw [e _ (by rw [hr]; omega)]
  simp only [hr]
  let i : Fin 8 := ⟨r.val / 2, by omega⟩
  have hbit : (laneBit (at2 i l)).extractLsb' (16 * (r.val % 2)) 16 = BitVec.twoPow 16 (l.val % 16) := laneBit_at i l ⟨r.val % 2, by omega⟩
  show Scalar.select (Scalar.cmpi .ne (((dynamicGather 1 (shapeCast S8x128 w shapeCasts_S1x1x8x128_S8x128) _ (at2 i l)) &&& laneBit (at2 i l)).extractLsb' (16 * (r.val % 2)) 16) 0#16) (x (at2 r l)) _ = _
  have hg : dynamicGather 1 (shapeCast S8x128 w shapeCasts_S1x1x8x128_S8x128) (shapeCast S8x128 (shapeCast S8x128x1
      (select (cmpi .slt (idxAt baseLane k) (broadcast S8x128 0#32)) (addi (idxAt baseLane k) (broadcast S8x128 128#32)) (idxAt baseLane k))
        shapeCasts_S8x128_S8x128x1) shapeCasts_S8x128x1_S8x128) (at2 i l) = w y := by
    have hi : (shapeCast S8x128 (shapeCast S8x128x1
      (select (cmpi .slt (idxAt baseLane k) (broadcast S8x128 0#32)) (addi (idxAt baseLane k) (broadcast S8x128 128#32)) (idxAt baseLane k))
        shapeCasts_S8x128_S8x128x1) shapeCasts_S8x128x1_S8x128) (at2 i l) = BitVec.ofNat 32 (readLane k.val l.val) := by
      rw [shapeCast_shapeCast]
      show Scalar.select (Scalar.cmpi .slt (idxAt baseLane k (at2 i l)) 0#32) (idxAt baseLane k (at2 i l) + 128#32) (idxAt baseLane k (at2 i l)) = _
      rw [idxAt_at]; exact idx_wrap _ hL
    unfold dynamicGather
    refine shapeCast_apply _ _ _ y ?_
    rw [Shape.rowMajor_val_two, Shape.rowMajor_val_four]
    have e1 : (BitVec.ofNat 32 (readLane k.val l.val)).toNat % 128 = readLane k.val l.val := by
      rw [BitVec.toNat_ofNat]; omega
    show (((y 0).val * 1 + (y 1).val) * 8 + (y 2).val) * 128 + (y 3).val = (r.val / 2) * 128 + ((_ : BitVec 32).toNat % 128)
    rw [hi, e1]; omega
  erw [hg]
  rw [BitVec.extractLsb'_and, hbit, BitVec.and_twoPow]
  rw [k0_pay462_at]
  by_cases hb : ((w y).extractLsb' (16 * (r.val % 2)) 16).getLsbD (l.val % 16)
  · rw [if_pos hb, if_pos hb]
    rw [twoPow_ne ⟨l.val % 16, by omega⟩]; rfl
  · rw [if_neg hb, if_neg hb]; rfl

end Cert.KernelIdeal.Hand

end
-- ==== Proof.Body.lean ====
/-
  What the kernel's storing loops leave behind, as functions of the whole block: the masked logits, the exponentials and the codes,
  and the running maxima and sums they carry.
-/
module

public import proofs.«01_k».proof.Proof.Mask
public import Idealize.ShloMosaic.PureOps.Ideal.Laws

@[expose] public section

noncomputable section

namespace Cert.KernelIdeal.Hand

open Cert.KernelIdeal Cert.KernelIdeal.Gen
open Idealize.ShloMosaic Idealize.ShloMosaic.TcCoe

/-! ## A loop that carries a value and lists its stores -/

/-- The stores of such a loop are those of its trips. -/
theorem loop_mem {α β : Type} {T : ℕ} (st : ℕ → α × List β) (R : Fin T → α → α) (L : Fin T → α → List β) (P : Fin T → β → Prop)
    (h0 : (st 0).2 = []) (hs : ∀ k : Fin T, st (k.val + 1) = (R k (st k.val).1, L k (st k.val).1 ++ (st k.val).2))
    (hL : ∀ k a p, p ∈ L k a ↔ P k p) (p : β) :
    ∀ n : ℕ, n ≤ T → (p ∈ (st n).2 ↔ ∃ k : Fin T, k.val < n ∧ P k p)
  | 0, _ => by rw [h0]; exact ⟨fun hp => absurd hp List.not_mem_nil, fun ⟨_, h, _⟩ => absurd h (Nat.not_lt_zero _)⟩
  | n + 1, h => by
    rw [hs ⟨n, h⟩]
    show p ∈ L ⟨n, h⟩ _ ++ (st n).2 ↔ _
    rw [List.mem_append, hL, loop_mem st R L P h0 hs hL p n (Nat.le_of_succ_le h)]
    constructor
    · rintro (h' | ⟨k, hk, h'⟩)
      · exact ⟨⟨n, h⟩, Nat.lt_succ_self n, h'⟩
      · exact ⟨k, Nat.lt_succ_of_lt hk, h'⟩
    · rintro ⟨k, hk, h'⟩
      by_cases e : k.val = n
      · left; rwa [show (⟨n, h⟩ : Fin T) = k from Fin.ext e.symm]
      · right; exact ⟨k, by omega, h'⟩

/-- An invariant of the carried value. -/
theorem loop_inv {α β : Type} {T : ℕ} (st : ℕ → α × List β) (R : Fin T → α → α) (L : Fin T → α → List β) (I : ℕ → α → Prop)
    (h0 : I 0 (st 0).1) (hs : ∀ k : Fin T, st (k.val + 1) = (R k (st k.val).1, L k (st k.val).1 ++ (st k.val).2))
    (hI : ∀ (k : Fin T) a, I k.val a → I (k.val + 1) (R k a)) :
    ∀ n : ℕ, n ≤ T → I n (st n).1
  | 0, _ => h0
  | n + 1, h => by
    rw [hs ⟨n, h⟩]
    exact hI ⟨n, h⟩ _ (loop_inv st R L I h0 hs hI n (Nat.le_of_succ_le h))

/-- A running maximum lies below `b` exactly when its start and every chunk do. -/
theorem foldQ_max_le (f : Fin 24 → FVec Ideal S16x128 .bf16) (a : FVec Ideal S16x128 .bf16) (x : S16x128.Idx) (b : EReal) :
    ∀ (n : ℕ) (h : n ≤ 24), (foldQ maximumf f a n h x : EReal) ≤ b ↔ (a x : EReal) ≤ b ∧ ∀ q : Fin 24, q.val < n → (f q x : EReal) ≤ b
  | 0, _ => ⟨fun h => ⟨h, fun _ hq => absurd hq (Nat.not_lt_zero _)⟩, fun h => h.1⟩
  | n + 1, h => by
    show (max (foldQ maximumf f a n (Nat.le_of_succ_le h) x : EReal) (f ⟨n, h⟩ x : EReal)) ≤ b ↔ _
    rw [max_le_iff, foldQ_max_le f a x b n]
    constructor
    · rintro ⟨⟨h1, h2⟩, h3⟩
      refine ⟨h1, fun q hq => ?_⟩
      by_cases e : q.val = n
      · rwa [show q = (⟨n, h⟩ : Fin 24) from Fin.ext e]
      · exact h2 q (by omega)
    · rintro ⟨h1, h2⟩
      exact ⟨⟨h1, fun q hq => h2 q (Nat.lt_succ_of_lt hq)⟩, h2 ⟨n, h⟩ (Nat.lt_succ_self n)⟩

/-- A running sum is its start plus every chunk. -/
theorem foldQ_add (f : Fin 24 → FVec Ideal S16x128 .f32) (a : FVec Ideal S16x128 .f32) (x : S16x128.Idx) :
    ∀ (n : ℕ) (h : n ≤ 24), (foldQ addf f a n h x : EReal) = (a x : EReal) + ∑ q : Fin n, (f (q.castLE h) x : EReal)
  | 0, _ => by simp [foldQ]
  | n + 1, h => by
    show ((foldQ addf f a n (Nat.le_of_succ_le h) x : EReal) + (f ⟨n, h⟩ x : EReal)) = _
    rw [foldQ_add f a x n, Fin.sum_univ_castSucc, add_assoc]; rfl

/-! ## The masked logits -/

/-- The loop of the exponentials runs 16 trips. -/
theorem trips2 : k0_t2_loop.trips = 16 := by decide +kernel
/-- The loop of the codes runs 16 trips. -/
theorem trips4 : k0_t4_loop.trips = 16 := by decide +kernel

/-- The columns of a chunk begin at `2048 q + 128 k`. -/
theorem off1 (k : Fin 16) (q : Fin 24) : k0_off1 (k.cast trips1.symm) (BitVec.ofNat 32 (2048 * q.val)) 1 = 2048 * q.val + 128 * k.val := by
  revert k q; decide +kernel
/-- The same for the second tile of the masked logits. -/
theorem off2 (k : Fin 16) (q : Fin 24) : k0_off2 (k.cast trips1.symm) (BitVec.ofNat 32 (2048 * q.val)) 1 = 2048 * q.val + 128 * k.val := by
  revert k q; decide +kernel
/-- The same for the first tile of the exponentials. -/
theorem off3 (k : Fin 16) (q : Fin 24) : k0_off3 (k.cast trips2.symm) (BitVec.ofNat 32 (2048 * q.val)) 1 = 2048 * q.val + 128 * k.val := by
  revert k q; decide +kernel
/-- The same for the second tile of the exponentials. -/
theorem off4 (k : Fin 16) (q : Fin 24) : k0_off4 (k.cast trips2.symm) (BitVec.ofNat 32 (2048 * q.val)) 1 = 2048 * q.val + 128 * k.val := by
  revert k q; decide +kernel
/-- The same for the chunks of the codes. -/
theorem off5 (k : Fin 16) (q : Fin 24) : k0_off5 (k.cast trips4.symm) (BitVec.ofNat 32 (2048 * q.val)) 1 = 2048 * q.val + 128 * k.val := by
  revert k q; decide +kernel

/-- The token of lane `l` of chunk `q` at trip `k`. -/
def token (k : Fin 16) (q : Fin 24) (l : Fin 128) : Fin 49152 := ⟨2048 * q.val + 128 * k.val + l.val, by omega⟩

/-- A chunk of masked logits, at tile `t`. -/
theorem mask_piece (W : S32x1536.Idx → BitVec 32) (X : S32x49152.Idx → EReal) (t : Fin 2) (k : Fin k0_t1_loop.trips) (q : Fin 24) (off : Fin 2 → ℕ)
    (h0 : off 0 = 16 * t.val) (h1 : off 1 = 2048 * q.val + 128 * k.val) (h : ∀ a, off a + S16x128.size a ≤ S32x49152.size a) (r : Fin 16) (l : Fin 128) :
    k0_pay463 (F := Ideal) laneBit (idxAt baseLane k) (part (words W) ![t.val, q.val, 0, 0] S1x1x8x128.size (inbW t q)) (part X off S16x128.size h) (at2 r l)
      = masked W X ⟨16 * t.val + r.val, by omega⟩ (token (k.cast trips1) q l) := by
  have hk : k.val < 16 := lt_of_lt_of_eq k.isLt trips1
  have hL : readLane k.val l.val < 128 := by unfold readLane; omega
  let y : S1x1x8x128.Idx := fun a => match a with
    | 0 => ⟨0, by decide⟩
    | 1 => ⟨0, by decide⟩
    | 2 => (⟨r.val / 2, by omega⟩ : Fin 8)
    | 3 => (⟨readLane k.val l.val, hL⟩ : Fin 128)
  rw [chunk_at k _ _ r l y rfl rfl rfl rfl]
  have hw : part (words W) ![t.val, q.val, 0, 0] S1x1x8x128.size (inbW t q) y
      = half (W (at2 ⟨16 * t.val + 2 * (r.val / 2) + 1, by omega⟩ ⟨64 * q.val + readLane k.val l.val % 64, by omega⟩)) (readLane k.val l.val / 64)
      ++ half (W (at2 ⟨16 * t.val + 2 * (r.val / 2), by omega⟩ ⟨64 * q.val + readLane k.val l.val % 64, by omega⟩)) (readLane k.val l.val / 64) :=
    words_at W _ t q ⟨r.val / 2, by omega⟩ ⟨readLane k.val l.val, hL⟩ (by rw [LoadRect.idx_apply]; show t.val + 1 * 0 = t.val; omega)
      (by rw [LoadRect.idx_apply]; show q.val + 1 * 0 = q.val; omega) (by rw [LoadRect.idx_apply]; show 0 + 1 * (r.val / 2) = r.val / 2; omega)
      (by rw [LoadRect.idx_apply]; show 0 + 1 * readLane k.val l.val = readLane k.val l.val; omega)
  rw [hw]
  have hx : part X off S16x128.size h (at2 r l) = X (at2 ⟨16 * t.val + r.val, by omega⟩ (token (k.cast trips1) q l)) :=
    part_at X _ _ off h0 h1 h r l _ _ rfl rfl
  rw [hx]; unfold masked permitted
  congr 2
  have e1 : readLane k.val l.val % 64 = l.val / 32 + 4 * k.val := by unfold readLane; omega
  have e2 : readLane k.val l.val / 64 = l.val / 16 % 2 := by unfold readLane; omega
  have ec : (⟨64 * q.val + readLane k.val l.val % 64, by omega⟩ : Fin 1536) = ⟨(token (k.cast trips1) q l).val / 32, by unfold token; dsimp only; omega⟩ :=
    Fin.ext (by unfold token; simp only [Fin.val_cast]; omega)
  have eb : (token (k.cast trips1) q l).val % 32 = 16 * (l.val / 16 % 2) + l.val % 16 := by unfold token; simp only [Fin.val_cast]; omega
  rw [eb, e2]
  simp only [ec]
  rw [BitVec.getLsbD_extractLsb', BitVec.getLsbD_append]
  unfold half
  by_cases hr : r.val % 2 = 0
  · have er : (⟨16 * t.val + 2 * (r.val / 2), by omega⟩ : Fin 32) = ⟨16 * t.val + r.val, by omega⟩ := Fin.ext (by show 16 * t.val + 2 * (r.val / 2) = 16 * t.val + r.val; omega)
    rw [er, hr]
    have hl : l.val % 16 < 16 := by omega
    simp [hl]
  · have er : (⟨16 * t.val + 2 * (r.val / 2) + 1, by omega⟩ : Fin 32) = ⟨16 * t.val + r.val, by omega⟩ := Fin.ext (by show 16 * t.val + 2 * (r.val / 2) + 1= 16 * t.val + r.val; omega)
    have hr' : r.val % 2 = 1 := by omega
    rw [er, hr']
    simp
    intro _; omega

/-- The masked logits of the whole block. -/
def maskedAt (W : S32x1536.Idx → BitVec 32) (X : S32x49152.Idx → EReal) : S32x49152.Idx → EReal := fun y => masked W X (y 0) (y 1)

/-- Row `r` of tile `t`. -/
def tileRow (t : Fin 2) (r : Fin 16) : Fin 32 := ⟨16 * t.val + r.val, by omega⟩

/-- The first tile of a chunk of masked logits holds the masked rows 0 to 15. -/
theorem xmA_at (W : S32x1536.Idx → BitVec 32) (X : S32x49152.Idx → EReal) (k : Fin k0_t1_loop.trips) (q : Fin 24) (r : Fin 16) (l : Fin 128) :
    xmA laneBit baseLane (words W) X k q (at2 r l) = masked W X (tileRow 0 r) (token (k.cast trips1) q l) :=
  mask_piece W X 0 k q _ rfl (off1 (k.cast trips1) q) _ r l
/-- The second tile holds the masked rows 16 to 31. -/
theorem xmB_at (W : S32x1536.Idx → BitVec 32) (X : S32x49152.Idx → EReal) (k : Fin k0_t1_loop.trips) (q : Fin 24) (r : Fin 16) (l : Fin 128) :
    xmB laneBit baseLane (words W) X k q (at2 r l) = masked W X (tileRow 1 r) (token (k.cast trips1) q l) :=
  mask_piece W X 1 k q _ rfl (off2 (k.cast trips1) q) _ r l

/-- A chunk agrees with a function of the whole block when it does at every row and lane. -/
theorem chunk_agree {e : EltTy} (G : S32x49152.Idx → Elt Ideal e) (t : Fin 2) (k : Fin 16) (q : Fin 24) (off : Fin 2 → ℕ)
    (h0 : off 0 = 16 * t.val) (h1 : off 1 = 2048 * q.val + 128 * k.val) (h : ∀ a, off a + S16x128.size a ≤ S32x49152.size a)
    (v : S16x128.Idx → Elt Ideal e) (hv : ∀ r l, v (at2 r l) = G (at2 (tileRow t r) (token k q l)))
    (x : (Rect.unit (s := S32x49152) off S16x128.size h).shape.Idx) :
    shapeCast S16x128 v shapeCasts_S16x128_S16x128 x = G ((Rect.unit (s := S32x49152) off S16x128.size h).emb x) := by
  rw [shapeCast_self]
  obtain ⟨r, l, rfl⟩ : ∃ (r : Fin 16) (l : Fin 128), x = (at2 r l : S16x128.Idx) := ⟨x 0, x 1, (at2_eta (m := 16) (n := 128) x).symm⟩
  refine (hv r l).trans (congrArg G (eq_at2 _ _ _ ?_ ?_).symm)
  · show off 0 + 1 * r.val = 16 * t.val + r.val; omega
  · show off 1 + 1 * l.val = 2048 * q.val + 128 * k.val + l.val; omega

/-- An element of tile `t` and chunk `q` at trip `k` lies in the chunk's rectangle. -/
theorem chunk_mem (t : Fin 2) (k : Fin 16) (q : Fin 24) (off : Fin 2 → ℕ)
    (h0 : off 0 = 16 * t.val) (h1 : off 1 = 2048 * q.val + 128 * k.val) (h : ∀ a, off a + S16x128.size a ≤ S32x49152.size a)
    (y : S32x49152.Idx) (hr : (y 0).val / 16 = t.val) (hq : (y 1).val / 2048 = q.val) (hk : (y 1).val % 2048 / 128 = k.val) :
    y ∈ (Rect.unit (s := S32x49152) off S16x128.size h).set := by
  rw [Rect.mem_set_unit]
  intro a; match a with
  | 0 => show off 0 ≤ (y 0).val ∧ (y 0).val < off 0 + 16; omega
  | 1 => show off 1 ≤ (y 1).val ∧ (y 1).val < off 1 + 128; omega

/-- An element lies in tile 0 or in tile 1. -/
theorem tileOf_cases (y : S32x49152.Idx) : (y 0).val / 16 = (0 : Fin 2).val ∨ (y 0).val / 16 = (1 : Fin 2).val := by
  have : (y 0).val < 32 := (y 0).isLt
  show (y 0).val / 16 = 0 ∨ (y 0).val / 16 = 1
  omega
/-- The element's chunk, and the trip that stores it. -/
def chunkOf (y : S32x49152.Idx) : Fin 24 := ⟨(y 1).val / 2048, by have : (y 1).val < 49152 := (y 1).isLt; omega⟩
/-- The trip at which an entry of a block is written. -/
def tripOf (y : S32x49152.Idx) : Fin 16 := ⟨(y 1).val % 2048 / 128, by omega⟩

section First
variable (W : S32x1536.Idx → BitVec 32) (X : S32x49152.Idx → EReal)

/-- The running maxima after trip `k`. -/
def trip1 (k : Fin k0_t1_loop.trips) (a : FVec Ideal S16x128 .bf16 × FVec Ideal S16x128 .bf16) : FVec Ideal S16x128 .bf16 × FVec Ideal S16x128 .bf16 :=
  (foldQ maximumf (xmA laneBit baseLane (words W) X k) a.1 24 (le_refl 24), foldQ maximumf (xmB laneBit baseLane (words W) X k) a.2 24 (le_refl 24))

variable (st : ℕ → (FVec Ideal S16x128 .bf16 × FVec Ideal S16x128 .bf16) × List (View.Piece (Elt Ideal) S32x49152 .bf16))
  (h0 : st 0 = ((k0_pay462, k0_pay462), []))
  (hs : ∀ k : Fin k0_t1_loop.trips, st (k.val + 1) = (trip1 W X k (st k.val).1, pieces1 laneBit baseLane (words W) X k ++ (st k.val).2))

include h0 hs in
/-- The loop of the masks leaves the masked logits of the block. -/
theorem loop1_read {κ : Kind} {sp : Space} (v : View sig κ sp S32x49152 .bf16) (f : v.ty.Contents (Elt Ideal)) :
    v.read (Elt Ideal) (v.writes (Elt Ideal) f (st k0_t1_loop.trips).2) = maskedAt W X := by
  have hm := fun p => loop_mem st (trip1 W X) (fun k _ => pieces1 laneBit baseLane (words W) X k) (fun k p => p ∈ pieces1 laneBit baseLane (words W) X k)
    (by rw [h0]) hs (fun k a p => Iff.rfl) p k0_t1_loop.trips (le_refl _)
  funext y
  refine View.read_writes_apply_of_pieces v f (maskedAt W X) _ (fun p hp => ?_) y ?_
  · obtain ⟨k, _, hp⟩ := (hm p).mp hp
    obtain ⟨q, rfl | rfl⟩ := (mem_twoPer _ _ _).mp hp
    · exact chunk_agree (e := .bf16) (maskedAt W X) 1 (k.cast trips1) q _ rfl (off2 (k.cast trips1) q) (k0_off2_inb k q) (xmB laneBit baseLane (words W) X k q) (xmB_at W X k q)
    · exact chunk_agree (e := .bf16) (maskedAt W X) 0 (k.cast trips1) q _ rfl (off1 (k.cast trips1) q) (k0_off1_inb k q) (xmA laneBit baseLane (words W) X k q) (xmA_at W X k q)
  · let k : Fin k0_t1_loop.trips := (tripOf y).cast trips1.symm
    rcases tileOf_cases y with e | e
    · refine ⟨_, (hm _).mpr ⟨k, k.isLt, (mem_twoPer _ _ _).mpr ⟨chunkOf y, .inr rfl⟩⟩, ?_⟩
      exact chunk_mem 0 (tripOf y) (chunkOf y) _ rfl (off1 (tripOf y) (chunkOf y)) (k0_off1_inb k (chunkOf y)) y e rfl rfl
    · refine ⟨_, (hm _).mpr ⟨k, k.isLt, (mem_twoPer _ _ _).mpr ⟨chunkOf y, .inl rfl⟩⟩, ?_⟩
      exact chunk_mem 1 (tripOf y) (chunkOf y) _ rfl (off2 (tripOf y) (chunkOf y)) (k0_off2_inb k (chunkOf y)) y e rfl rfl

/-- What the running maxima of a tile bound, before trip `n`. -/
def MaxBelow (t : Fin 2) (n : ℕ) (a : FVec Ideal S16x128 .bf16) : Prop :=
  ∀ (r : Fin 16) (l : Fin 128) (b : EReal), (a (at2 r l) : EReal) ≤ b ↔ ∀ (k : Fin 16) (q : Fin 24), k.val < n → masked W X (tileRow t r) (token k q l) ≤ b

/-- One trip keeps the running maximum's bound, extended by the trip's chunks. -/
theorem maxBelow_step (t : Fin 2) (k : Fin k0_t1_loop.trips) (f : Fin 24 → FVec Ideal S16x128 .bf16) (a : FVec Ideal S16x128 .bf16)
    (hf : ∀ q r l, f q (at2 r l) = masked W X (tileRow t r) (token (k.cast trips1) q l)) (ha : MaxBelow W X t k.val a) :
    MaxBelow W X t (k.val + 1) (foldQ maximumf f a 24 (le_refl 24)) := by
  intro r l b
  rw [foldQ_max_le, ha r l b]
  constructor
  · rintro ⟨h1, h2⟩ k' q hk
    by_cases e : k'.val = k.val
    · have := h2 q q.isLt
      rw [hf] at this
      rwa [show k' = k.cast trips1 from Fin.ext e]
    · exact h1 k' q (by omega)
  · intro h
    refine ⟨fun k' q hk => h k' q (by omega), fun q _ => ?_⟩
    rw [hf]; exact h _ q (Nat.lt_succ_self _)

include h0 hs in
/-- The running maxima after the loop. -/
theorem loop1_max : MaxBelow W X 0 16 (st k0_t1_loop.trips).1.1 ∧ MaxBelow W X 1 16 (st k0_t1_loop.trips).1.2 := by
  have hbot : ∀ t, MaxBelow W X t 0 (k0_pay462 (F := Ideal)) := by
    intro t r l b
    have : (k0_pay462 (F := Ideal) (at2 r l) : EReal) = ⊥ := k0_pay462_at r l
    rw [this]
    exact ⟨fun _ k q hk => absurd hk (Nat.not_lt_zero _), fun _ => bot_le⟩
  have := loop_inv st (trip1 W X) (fun k _ => pieces1 laneBit baseLane (words W) X k) (fun n a => MaxBelow W X 0 n a.1 ∧ MaxBelow W X 1 n a.2)
    (by rw [h0]; exact ⟨hbot 0, hbot 1⟩) hs
    (fun k a h => ⟨maxBelow_step W X 0 k _ _ (xmA_at W X k) h.1, maxBelow_step W X 1 k _ _ (xmB_at W X k) h.2⟩) k0_t1_loop.trips (le_refl _)
  have e : k0_t1_loop.trips = 16 := trips1
  exact ⟨e ▸ this.1, e ▸ this.2⟩

end First

/-! ## The exponentials -/

/-- The exponential of one masked logit `x` in a row whose maximum over the temperature is `M`, as the kernel computes it. -/
def expo (M x : EReal) : EReal :=
  Ideal.exp2 ((x * Ideal.ofBits .f32 0x3FA00000#32 - M) * Named.named (F := Ideal) (φ := .f32) κ "log2_e" 0x3FB8AA3B#32)

section Second
variable (M : Fin 32 → EReal) (G : S32x49152.Idx → EReal) (mA : FVec Ideal S16x128 .f32) (mB : FVec Ideal S16x1 .f32)
  (hA : ∀ (r : Fin 16) (l : Fin 128), mA (at2 r l) = M (tileRow 0 r)) (hB : ∀ (r : Fin 16), mB (at2 r 0) = M (tileRow 1 r))

/-- The exponentials of the whole block. -/
def expAt : S32x49152.Idx → EReal := fun y => expo (M (y 0)) (G y)

include hA in
/-- The first tile of a chunk of exponentials holds the exponentials of rows 0 to 15. -/
theorem exA_at (k : Fin k0_t2_loop.trips) (q : Fin 24) (r : Fin 16) (l : Fin 128) :
    exA mA G k q (at2 r l) = expAt M G (at2 (tileRow 0 r) (token (k.cast trips2) q l)) := by
  exact congrArg₂ expo (hA r l) (part_at G _ _ _ rfl (off3 (k.cast trips2) q) _ r l (tileRow 0 r) (token (k.cast trips2) q l) rfl rfl)

include hB in
/-- The second tile holds those of rows 16 to 31. -/
theorem exB_at (k : Fin k0_t2_loop.trips) (q : Fin 24) (r : Fin 16) (l : Fin 128) :
    exB mB G k q (at2 r l) = expAt M G (at2 (tileRow 1 r) (token (k.cast trips2) q l)) := by
  have : k0_pay468 mB (at2 r l) = mB (at2 r 0) := by
    unfold k0_pay468
    rw [shapeCast_self]
    refine broadcastTo_apply _ _ _ _ fun a => ?_
    match a with
    | 0 => rfl
    | 1 => rfl
  exact congrArg₂ expo (this.trans (hB r)) (part_at G _ _ _ rfl (off4 (k.cast trips2) q) _ r l (tileRow 1 r) (token (k.cast trips2) q l) rfl rfl)

/-- The running sums after trip `k`. -/
def trip2 (k : Fin k0_t2_loop.trips) (a : FVec Ideal S16x128 .f32 × FVec Ideal S16x128 .f32) : FVec Ideal S16x128 .f32 × FVec Ideal S16x128 .f32 :=
  (foldQ addf (exA mA G k) a.1 24 (le_refl 24), foldQ addf (exB mB G k) a.2 24 (le_refl 24))

variable (st : ℕ → (FVec Ideal S16x128 .f32 × FVec Ideal S16x128 .f32) × List (View.Piece (Elt Ideal) S32x49152 .f32))
  (h0 : st 0 = ((k0_pay469, k0_pay469), []))
  (hs : ∀ k : Fin k0_t2_loop.trips, st (k.val + 1) = (trip2 G mA mB k (st k.val).1, pieces2 mA mB G k ++ (st k.val).2))

include hA hB h0 hs in
/-- The loop of the exponentials leaves those of the block. -/
theorem loop2_read {κ : Kind} {sp : Space} (v : View sig κ sp S32x49152 .f32) (f : v.ty.Contents (Elt Ideal)) :
    v.read (Elt Ideal) (v.writes (Elt Ideal) f (st k0_t2_loop.trips).2) = expAt M G := by
  have hm := fun p => loop_mem st (trip2 G mA mB) (fun k _ => pieces2 mA mB G k) (fun k p => p ∈ pieces2 mA mB G k)
    (by rw [h0]) hs (fun k a p => Iff.rfl) p k0_t2_loop.trips (le_refl _)
  funext y
  refine View.read_writes_apply_of_pieces v f (expAt M G) _ (fun p hp => ?_) y ?_
  · obtain ⟨k, _, hp⟩ := (hm p).mp hp
    obtain ⟨q, rfl | rfl⟩ := (mem_twoPer _ _ _).mp hp
    · exact chunk_agree (e := .f32) (expAt M G) 1 (k.cast trips2) q _ rfl (off4 (k.cast trips2) q) (k0_off4_inb k q) (exB mB G k q) (exB_at M G mB hB k q)
    · exact chunk_agree (e := .f32) (expAt M G) 0 (k.cast trips2) q _ rfl (off3 (k.cast trips2) q) (k0_off3_inb k q) (exA mA G k q) (exA_at M G mA hA k q)
  · let k : Fin k0_t2_loop.trips := (tripOf y).cast trips2.symm
    rcases tileOf_cases y with e | e
    · refine ⟨_, (hm _).mpr ⟨k, k.isLt, (mem_twoPer _ _ _).mpr ⟨chunkOf y, .inr rfl⟩⟩, ?_⟩
      exact chunk_mem 0 (tripOf y) (chunkOf y) _ rfl (off3 (tripOf y) (chunkOf y)) (k0_off3_inb k (chunkOf y)) y e rfl rfl
    · refine ⟨_, (hm _).mpr ⟨k, k.isLt, (mem_twoPer _ _ _).mpr ⟨chunkOf y, .inl rfl⟩⟩, ?_⟩
      exact chunk_mem 1 (tripOf y) (chunkOf y) _ rfl (off4 (tripOf y) (chunkOf y)) (k0_off4_inb k (chunkOf y)) y e rfl rfl

/-- The running sums of a tile before trip `n`. -/
def SumIs (t : Fin 2) (n : ℕ) (a : FVec Ideal S16x128 .f32) : Prop :=
  ∀ (r : Fin 16) (l : Fin 128), (a (at2 r l) : EReal) = ∑ k ∈ Finset.univ.filter (fun k : Fin 16 => k.val < n), ∑ q : Fin 24, expAt M G (at2 (tileRow t r) (token k q l))

/-- One trip adds its chunks' exponentials to the running sum. -/
theorem sumIs_step (t : Fin 2) (k : Fin k0_t2_loop.trips) (f : Fin 24 → FVec Ideal S16x128 .f32) (a : FVec Ideal S16x128 .f32)
    (hf : ∀ q r l, f q (at2 r l) = expAt M G (at2 (tileRow t r) (token (k.cast trips2) q l))) (ha : SumIs M G t k.val a) :
    SumIs M G t (k.val + 1) (foldQ addf f a 24 (le_refl 24)) := by
  intro r l
  have e : Finset.univ.filter (fun k' : Fin 16 => k'.val < k.val + 1) = insert (k.cast trips2) (Finset.univ.filter (fun k' : Fin 16 => k'.val < k.val)) := by
    ext k'
    simp only [Finset.mem_filter, Finset.mem_univ, true_and, Finset.mem_insert, Fin.ext_iff, Fin.val_cast]
    omega
  rw [foldQ_add, ha r l, e, Finset.sum_insert (by simp), add_comm]
  congr 1
  exact Finset.sum_congr rfl fun q _ => hf q r l

include hA hB h0 hs in
/-- The running sums after the loop. -/
theorem loop2_sum : SumIs M G 0 16 (st k0_t2_loop.trips).1.1 ∧ SumIs M G 1 16 (st k0_t2_loop.trips).1.2 := by
  have hz : ∀ t, SumIs M G t 0 (k0_pay469 (F := Ideal)) := by
    intro t r l
    have : (k0_pay469 (F := Ideal) (at2 r l) : EReal) = 0 := by
      show Ideal.ofBits .f32 0x00000000#32 = 0
      simp [Ideal.ofBits, Ideal.ieee]
    rw [this]; simp
  have := loop_inv st (trip2 G mA mB) (fun k _ => pieces2 mA mB G k) (fun n a => SumIs M G 0 n a.1 ∧ SumIs M G 1 n a.2)
    (by rw [h0]; exact ⟨hz 0, hz 1⟩) hs
    (fun k a h => ⟨sumIs_step M G 0 k _ _ (exA_at M G mA hA k) h.1, sumIs_step M G 1 k _ _ (exB_at M G mB hB k) h.2⟩) k0_t2_loop.trips (le_refl _)
  have e : k0_t2_loop.trips = 16 := trips2
  exact ⟨e ▸ this.1, e ▸ this.2⟩

end Second

/-! ## The codes -/

/-- One code: the exponential times its row's factor, cut to [0, 448]. -/
def code (e f : EReal) : EReal := min (Ideal.ofBits .f32 0x43E00000#32) (max (Ideal.ofBits .f32 0x00000000#32) (e * f))

section Fourth
variable (Fc : Fin 32 → EReal) (E : S32x49152.Idx → EReal) (fac : FVec Ideal S32x128 .f32) (hf : ∀ (r : Fin 32) (l : Fin 128), fac (at2 r l) = Fc r)

/-- The codes of the whole block. -/
def codeAt : S32x49152.Idx → EReal := fun y => code (E y) (Fc (y 0))

include hf in
/-- A chunk of codes holds the codes of its rows and tokens. -/
theorem codeChunk_at (k : Fin k0_t4_loop.trips) (q : Fin 24) (r : Fin 32) (l : Fin 128) :
    codeChunk fac E k q (at2 r l) = codeAt Fc E (at2 r (token (k.cast trips4) q l)) := by
  exact congrArg₂ code (part_at E 0 _ _ rfl (off5 (k.cast trips4) q) _ r l r (token (k.cast trips4) q l) (Nat.zero_add _).symm rfl) (hf r l)

variable (L : ℕ → List (View.Piece (Elt Ideal) S32x49152 .fp8e4m3)) (h0 : L 0 = [])
  (hs : ∀ k : Fin k0_t4_loop.trips, L (k.val + 1) = pieces4 fac E k ++ L k.val)

include hf h0 hs in
/-- The loop of the codes leaves those of the block. -/
theorem loop4_read {κ : Kind} {sp : Space} (v : View sig κ sp S32x49152 .fp8e4m3) (f : v.ty.Contents (Elt Ideal)) :
    v.read (Elt Ideal) (v.writes (Elt Ideal) f (L k0_t4_loop.trips)) = codeAt Fc E := by
  have hm := fun p => loop_mem (fun n => (Unit.unit, L n)) (fun _ _ => Unit.unit) (fun k _ => pieces4 fac E k) (fun k p => p ∈ pieces4 fac E k)
    h0 (fun k => by rw [hs k]) (fun k a p => Iff.rfl) p k0_t4_loop.trips (le_refl _)
  funext y
  refine View.read_writes_apply_of_pieces v f (codeAt Fc E) _ (fun p hp => ?_) y ?_
  · obtain ⟨k, _, hp⟩ := (hm p).mp hp
    obtain ⟨q, rfl⟩ := (mem_onePer _ _).mp hp
    intro x
    obtain ⟨r, l, rfl⟩ : ∃ (r : Fin 32) (l : Fin 128), x = (at2 r l : S32x128.Idx) := ⟨x 0, x 1, (at2_eta (m := 32) (n := 128) x).symm⟩
    refine (codeChunk_at Fc E fac hf k q r l).trans (congrArg (codeAt Fc E) (eq_at2 _ _ _ ?_ ?_).symm)
    · show 0 + 1 * r.val = r.val; omega
    · have := off5 (k.cast trips4) q
      show k0_off5 k (BitVec.ofNat 32 (2048 * q.val)) 1 + 1 * l.val = 2048 * q.val + 128 * k.val + l.val
      have this : k0_off5 k (BitVec.ofNat 32 (2048 * q.val)) 1 = 2048 * q.val + 128 * k.val := this
      omega
  · let k : Fin k0_t4_loop.trips := (tripOf y).cast trips4.symm
    refine ⟨_, (hm _).mpr ⟨k, k.isLt, (mem_onePer _ _).mpr ⟨chunkOf y, rfl⟩⟩, ?_⟩
    have e : k0_off5 k (BitVec.ofNat 32 (2048 * (chunkOf y).val)) 1 = 2048 * (chunkOf y).val + 128 * (tripOf y).val := off5 (tripOf y) (chunkOf y)
    have e1 : (chunkOf y).val = (y 1).val / 2048 := rfl
    have e2 : (tripOf y).val = (y 1).val % 2048 / 128 := rfl
    rw [Rect.mem_set_unit]
    intro a; match a with
    | 0 =>
      have : (y 0).val < 32 := (y 0).isLt
      show 0 ≤ (y 0).val ∧ (y 0).val < 0 + 32; omega
    | 1 => show k0_off5 k (BitVec.ofNat 32 (2048 * (chunkOf y).val)) 1 ≤ (y 1).val ∧ (y 1).val < k0_off5 k (BitVec.ofNat 32 (2048 * (chunkOf y).val)) 1 + 128; omega

end Fourth

end Cert.KernelIdeal.Hand

end
-- ==== Proof.Rows.lean ====
/-
  What the kernel computes of each row of a block: its maximum, its sum of exponentials, the count that finds the power of two of its
  scale, the scale and the factor of its codes.
-/
module

public import proofs.«01_k».proof.Proof.Body

@[expose] public section

noncomputable section

namespace Cert.KernelIdeal.Hand

open Cert.KernelIdeal Cert.KernelIdeal.Gen
open Idealize.ShloMosaic Idealize.ShloMosaic.TcCoe

/-- A row's maximum over the temperature. -/
def rowMax (f : Fin 49152 → EReal) : EReal := Ideal.div (⨆ v, f v) (Named.named (F := Ideal) (φ := .f32) κ "temperature" 0x3F4CCCCD#32)
/-- A row's exponentials. -/
def rowExp (f : Fin 49152 → EReal) (v : Fin 49152) : EReal := expo (rowMax f) (f v)
/-- A row's sum of exponentials. -/
def rowSum (f : Fin 49152 → EReal) : EReal := ∑ v, rowExp f v
/-- One over a row's sum: its largest probability. -/
def rowInv (f : Fin 49152 → EReal) : EReal := Ideal.div (Ideal.ofBits .f32 0x3F800000#32) (rowSum f)
/-- The number of the first `n` positive powers of two, from the smallest, that are not above `y`. -/
def tally (y : EReal) : ℕ → BitVec 32
  | 0 => 0#32
  | n + 1 => tally y n + bif decide (y < Ideal.ofBits .f32 (BitVec.ofNat 32 (n + 1) <<< 23)) then 0#32 else 1#32
/-- The count of a row. -/
def rowCount (f : Fin 49152 → EReal) : BitVec 32 := tally (rowInv f * Ideal.ofBits .f32 0x3B124925#32) 255
/-- The scale of a row. -/
def rowScale (f : Fin 49152 → EReal) : EReal := Ideal.ofBits .f32 ((rowCount f + 1#32) <<< 23)
/-- The factor of a row's codes. -/
def rowFac (f : Fin 49152 → EReal) : EReal := rowInv f * Ideal.ofBits .f32 ((253#32 - rowCount f) <<< 23)

/-- The one-axis index `r`. -/
def at1 {m : ℕ} (r : Fin m) : (⟨1, ![m]⟩ : Shape).Idx := fun a => match a with
  | 0 => r

/-- A tile, chunk, trip and lane name an element of a row. -/
theorem token_surj (v : Fin 49152) : ∃ k q l, token k q l = v :=
  ⟨⟨v.val % 2048 / 128, by omega⟩, ⟨v.val / 2048, by omega⟩, ⟨v.val % 128, by omega⟩, Fin.ext (by
    show 2048 * (v.val / 2048) + 128 * (v.val % 2048 / 128) + v.val % 128 = v.val; omega)⟩

/-- A sum over lanes, trips and chunks is the sum over the row. -/
theorem sum_token (f : Fin 49152 → EReal) : ∑ l : Fin 128, ∑ k : Fin 16, ∑ q : Fin 24, f (token k q l) = ∑ v, f v := by
  rw [← Finset.sum_product', ← Finset.sum_product']
  refine Finset.sum_bij (fun p _ => token p.1.2 p.2 p.1.1) (fun _ _ => Finset.mem_univ _) ?_ ?_ (fun _ _ => rfl)
  · rintro ⟨⟨l, k⟩, q⟩ _ ⟨⟨l', k'⟩, q'⟩ _ h
    have h : 2048 * q.val + 128 * k.val + l.val = 2048 * q'.val + 128 * k'.val + l'.val := congrArg Fin.val h
    have h1 : l = l' := Fin.ext (by omega)
    have h2 : k = k' := Fin.ext (by omega)
    have h3 : q = q' := Fin.ext (by omega)
    rw [h1, h2, h3]
  · intro v _
    obtain ⟨k, q, l, h⟩ := token_surj v
    exact ⟨((l, k), q), by simp, h⟩

/-- A maximum folded from `⊥` is below `b` exactly when every member is. -/
theorem fold_max_le {n : ℕ} (f : Fin n → EReal) (b : EReal) : (Finset.univ : Finset (Fin n)).fold max (⊥ : EReal) f ≤ b ↔ ∀ i, f i ≤ b := by
  rw [Finset.fold_max_le]; simp

/-- The word of minus infinity. -/
theorem bot_word : Ideal.ofBits .f32 0xFF800000#32 = (⊥ : EReal) := by simp [Ideal.ofBits, Ideal.ieee]
/-- The word of zero. -/
theorem zero_word : Ideal.ofBits .f32 0x00000000#32 = (0 : EReal) := by simp [Ideal.ofBits, Ideal.ieee]

/-- The maximum along the rows of a tile. -/
theorem reduceMax_at (a : FVec Ideal S16x128 .f32) (r : Fin 16) (f : Fin 49152 → EReal)
    (h : ∀ (l : Fin 128) (b : EReal), (a (at2 r l) : EReal) ≤ b ↔ ∀ (k : Fin 16) (q : Fin 24), f (token k q l) ≤ b) (j : S16.Idx) (hj : (j 0).val = r.val) :
    (multiReduction (F := Ideal) .maximumf [1] S16 a 0xFF800000#32 reduces_S16x128_S16 (.inl rfl) rfl j : EReal) = ⨆ v, f v := by
  rw [Ideal.multiReduction_maximumf_single (s := S16x128) (t := S16) (a := 1) a 0xFF800000#32 reduces_S16x128_S16 (.inl rfl) rfl j]
  refine eq_of_forall_ge_iff fun b => ?_
  have hl : ∀ l : Fin 128, reduces_S16x128_S16.lift j l = (at2 r l : S16x128.Idx) := fun l => eq_at2 _ _ _ hj rfl
  show (Finset.univ : Finset (Fin 128)).fold max (Ideal.ofBits .f32 0xFF800000#32) (a ∘ reduces_S16x128_S16.lift j) ≤ b ↔ _
  rw [bot_word, iSup_le_iff]
  refine (fold_max_le (n := 128) (fun l => a (reduces_S16x128_S16.lift j l)) b).trans ?_
  constructor
  · intro H v
    obtain ⟨k, q, l, rfl⟩ := token_surj v
    exact (h l b).mp (by rw [← hl]; exact H l) k q
  · intro H l
    show a (reduces_S16x128_S16.lift j l) ≤ b
    rw [hl]
    exact (h l b).mpr fun k q => H _

section Max
variable (W : S32x1536.Idx → BitVec 32) (X : S32x49152.Idx → EReal) (a : FVec Ideal S16x128 .bf16)

/-- After the 16 trips the running maximum bounds its lane's tokens. -/
theorem maxBelow_row (t : Fin 2) (h : MaxBelow W X t 16 a) (r : Fin 16) (l : Fin 128) (b : EReal) :
    (a (at2 r l) : EReal) ≤ b ↔ ∀ (k : Fin 16) (q : Fin 24), masked W X (tileRow t r) (token k q l) ≤ b :=
  (h r l b).trans ⟨fun H k q => H k q k.isLt, fun H k q _ => H k q⟩

/-- The maxima of the first tile's rows over the temperature. -/
theorem pay466_at (h : MaxBelow W X 0 16 a) (r : Fin 16) (l : Fin 128) : (k0_pay466 a (at2 r l) : EReal) = rowMax (masked W X (tileRow 0 r)) := by
  unfold k0_pay466
  rw [broadcastTo_apply _ _ (at2 r l) (at2 r 0 : S16x1.Idx) (fun c => by
    match c with
    | 0 => rfl
    | 1 => rfl), shapeCast_self]
  refine congrArg (fun m => Ideal.div m _) ?_
  rw [shapeCast_apply _ _ (at2 r 0 : S16x1.Idx) (at1 r : S16.Idx) (by
    rw [Shape.rowMajor_val_one, Shape.rowMajor_val_two]; show r.val = r.val * 1 + 0; omega)]
  exact reduceMax_at (extf .f32 a bitsLt_bf16_f32) r _ (maxBelow_row W X a 0 h r) _ rfl

/-- The maxima of the second tile's rows over the temperature. -/
theorem pay467_at (h : MaxBelow W X 1 16 a) (r : Fin 16) : (k0_pay467 a (at2 r 0) : EReal) = rowMax (masked W X (tileRow 1 r)) := by
  unfold k0_pay467
  refine congrArg (fun m => Ideal.div m _) ?_
  rw [shapeCast_apply _ _ (at2 r 0 : S16x1.Idx) (at1 r : S16.Idx) (by
    rw [Shape.rowMajor_val_one, Shape.rowMajor_val_two]; show r.val = r.val * 1 + 0; omega)]
  exact reduceMax_at (extf .f32 a bitsLt_bf16_f32) r _ (maxBelow_row W X a 1 h r) _ rfl
end Max

/-! ## The sums -/

section Sums
variable (M : Fin 32 → EReal) (G : S32x49152.Idx → EReal) (s0 s1 : FVec Ideal S16x128 .f32) (h0 : SumIs M G 0 16 s0) (h1 : SumIs M G 1 16 s1)

include h0 h1 in
/-- The two tiles' running sums laid together. -/
theorem concat_at (r : Fin 32) (l : Fin 128) :
    (concatenate S32x128 0 [⟨S16x128, s0⟩, ⟨S16x128, s1⟩] concatenates_S16x128_S16x128_S32x128_d0 (at2 r l) : EReal)
      = ∑ k : Fin 16, ∑ q : Fin 24, expAt M G (at2 r (token k q l)) := by
  have full : Finset.univ.filter (fun k : Fin 16 => k.val < 16) = Finset.univ := by ext k; simp
  by_cases hr : r.val < 16
  · rw [concatenate_pair_apply_left 0 s0 s1 _ (at2 r l) rfl (at2 ⟨r.val, hr⟩ l : S16x128.Idx) (fun b => by
      match b with
      | 0 => rfl
      | 1 => rfl)]
    have := h0 ⟨r.val, hr⟩ l
    rw [full] at this
    have e : tileRow 0 ⟨r.val, hr⟩ = r := Fin.ext (Nat.zero_add _)
    rw [e] at this
    exact this
  · rw [concatenate_pair_apply_right 0 s0 s1 _ (at2 r l) rfl rfl (at2 ⟨r.val - 16, by omega⟩ l : S16x128.Idx) (fun b hb => by
      match b with
      | 0 => exact absurd rfl hb
      | 1 => rfl) (by show r.val - 16 + 16 = r.val; omega)]
    have := h1 ⟨r.val - 16, by omega⟩ l
    rw [full] at this
    have e : tileRow 1 ⟨r.val - 16, by omega⟩ = r := Fin.ext (by show 16 * 1 + (r.val - 16) = r.val; omega)
    rw [e] at this
    exact this

include h0 h1 in
/-- The rows' sums. -/
theorem pay473_at (r : Fin 32) (l : Fin 128) : (k0_pay473 s0 s1 (at2 r l) : EReal) = ∑ v, expAt M G (at2 r v) := by
  unfold k0_pay473
  rw [broadcastTo_apply _ _ (at2 r l) (at2 r 0 : S32x1.Idx) (fun c => by
    match c with
    | 0 => rfl
    | 1 => rfl), shapeCast_self, shapeCast_apply _ _ (at2 r 0 : S32x1.Idx) (at1 r : S32.Idx) (by
    rw [Shape.rowMajor_val_one, Shape.rowMajor_val_two]; show r.val = r.val * 1 + 0; omega)]
  rw [Ideal.multiReduction_add_single (s := S32x128) (t := S32) (a := 1) _ 0x00000000#32 reduces_S32x128_S32 (.inl rfl) rfl _]
  rw [← sum_token]
  refine Finset.sum_congr rfl fun l' _ => ?_
  rw [← concat_at M G s0 s1 h0 h1 r l']
  exact congrArg _ (eq_at2 _ _ _ rfl rfl)
end Sums

/-! ## The count -/

section Count
variable (s0 s1 : FVec Ideal S16x128 .f32) (S : Fin 32 → EReal) (hS : ∀ (r : Fin 32) (l : Fin 128), (k0_pay473 s0 s1 (at2 r l) : EReal) = S r)

include hS in
/-- The reciprocal of a row's sum. -/
theorem pay474_at (r : Fin 32) (l : Fin 128) : (k0_pay474 s0 s1 (at2 r l) : EReal) = Ideal.div (Ideal.ofBits .f32 0x3F800000#32) (S r) :=
  congrArg (Ideal.div _) (hS r l)

/-- One trip of the counting loop. -/
theorem pay476_at (k : Fin k0_t3_loop.trips) (acc : IVec S32x128 32) (y : EReal) (r : Fin 32) (l : Fin 128)
    (hy : (k0_pay474 s0 s1 (at2 r l) : EReal) * Ideal.ofBits .f32 0x3B124925#32 = y) (hacc : acc (at2 r l) = tally y k.val) :
    k0_pay476 s0 s1 k acc (at2 r l) = tally y (k.val + 1) := by
  have hk : Scf.iv 1#32 1#32 k.val = BitVec.ofNat 32 (k.val + 1) := by
    simp only [Scf.iv, BitVec.ofNat_add, BitVec.mul_one]
    exact BitVec.add_comm _ _
  have step : k0_pay476 s0 s1 k acc (at2 r l) = acc (at2 r l) + Scalar.select (Ideal.cmp .olt ((k0_pay474 s0 s1 (at2 r l) : EReal) * Ideal.ofBits .f32 0x3B124925#32)
      (Ideal.ofBits .f32 (Scalar.shli (Scf.iv 1#32 1#32 k.val) 23#32))) 0#32 1#32 := rfl
  rw [step, hy, hacc, hk]
  show _ = tally y k.val + _
  refine congrArg (tally y k.val + ·) ?_
  have sh : Scalar.shli (BitVec.ofNat 32 (k.val + 1)) 23#32 = BitVec.ofNat 32 (k.val + 1) <<< 23 := rfl
  rw [sh]
  by_cases h : y < Ideal.ofBits .f32 (BitVec.ofNat 32 (k.val + 1) <<< 23)
  · simp [h, Ideal.cmp, Scalar.select]
  · simp [h, Ideal.cmp, Scalar.select]

/-- A fold over the trips keeps what each trip keeps. -/
theorem foldl_inv {σ : Type} : ∀ (n : ℕ) (g : Fin n → σ → σ) (P : ℕ → σ → Prop) (a : σ) (h0 : P 0 a)
    (hs : ∀ (k : Fin n) a, P k.val a → P (k.val + 1) (g k a)), P n ((List.finRange n).foldl (fun a k => g k a) a)
  | 0, g, P, a, h0, hs => h0
  | n + 1, g, P, a, h0, hs => by
    rw [List.finRange_succ_last, List.foldl_append, List.foldl_map]
    exact hs (Fin.last n) _ (foldl_inv n (fun k => g k.castSucc) P a h0 (fun k a h => hs k.castSucc a h))

include hS in
/-- The counting loop leaves the count of each row. -/
theorem count_at (r : Fin 32) (l : Fin 128) :
    (List.finRange k0_t3_loop.trips).foldl (fun a k => k0_pay476 s0 s1 k a) k0_pay475 (at2 r l)
      = tally (Ideal.div (Ideal.ofBits .f32 0x3F800000#32) (S r) * Ideal.ofBits .f32 0x3B124925#32) 255 := by
  have := foldl_inv k0_t3_loop.trips (fun k a => k0_pay476 s0 s1 k a)
    (fun n a => a (at2 r l) = tally (Ideal.div (Ideal.ofBits .f32 0x3F800000#32) (S r) * Ideal.ofBits .f32 0x3B124925#32) n) k0_pay475 rfl
    (fun k a h => pay476_at s0 s1 k a _ r l (by rw [pay474_at s0 s1 S hS]) h)
  have e : k0_t3_loop.trips = 255 := by decide
  exact this.trans (congrArg (tally _) e)

/-- The scale from the count. -/
theorem pay477_at (n : IVec S32x128 32) (r : Fin 32) (l : Fin 128) : (k0_pay477 (F := Ideal) n (at2 r l) : EReal) = Ideal.ofBits .f32 ((n (at2 r l) + 1#32) <<< 23) := rfl

include hS in
/-- The factor of the codes from the count. -/
theorem pay478_at (n : IVec S32x128 32) (r : Fin 32) (l : Fin 128) : (k0_pay478 s0 s1 n (at2 r l) : EReal)
      = Ideal.div (Ideal.ofBits .f32 0x3F800000#32) (S r) * Ideal.ofBits .f32 ((253#32 - n (at2 r l)) <<< 23) :=
  congrArg (· * Ideal.ofBits .f32 ((253#32 - n (at2 r l)) <<< 23)) (pay474_at s0 s1 S hS r l)
end Count

end Cert.KernelIdeal.Hand

end
-- ==== Proof.Tail.lean ====
/-
  The two small results: each grid point adds its 32 rows' values into 32 lanes of the row of twelve that four points share.
-/
module

public import proofs.«01_k».proof.Proof.Rows

@[expose] public section

noncomputable section

namespace Cert.KernelIdeal.Hand

open Cert.KernelIdeal Cert.KernelIdeal.Gen
open Idealize.ShloMosaic Idealize.ShloMosaic.TcCoe

/-- The store is taken at the first of four points. -/
theorem cond1_iff : ∀ i : grid0.Coords, k0_cond1 i = 1#1 ↔ (i 0).val % 4 = 0 := by decide +kernel
/-- The addition is taken at the other three. -/
theorem cond2_iff : ∀ i : grid0.Coords, k0_cond2 i = 1#1 ↔ (i 0).val % 4 ≠ 0 := by decide +kernel
/-- The store goes to row `g / 4`. -/
theorem off6_eq : ∀ i : grid0.Coords, k0_off6 i = ![(i 0).val / 4, 0] := by decide +kernel
/-- The addition goes to row `g / 4`. -/
theorem off7_eq : ∀ i : grid0.Coords, k0_off7 i = ![(i 0).val / 4, 0] := by decide +kernel

/-- What a point with `g % 4 = p` adds at lane `l`: the value of row `l % 32` at the lanes `32 p` to `32 p + 31`, nothing elsewhere. -/
def contrib (g : ℕ) (f : Fin 32 → EReal) (l : Fin 128) : EReal :=
  if l.val / 32 = g % 4 then f ⟨l.val % 32, Nat.mod_lt _ (by omega)⟩ else 0

/-- The small result after point `g`: its row `g / 4` takes the contribution, stored at the first of its four points and added at the others. -/
def updated (g : ℕ) (new : Fin 128 → EReal) (old : S12x128.Idx → EReal) : S12x128.Idx → EReal := fun y =>
  if (y 0).val = g / 4 then (if g % 4 = 0 then new (y 1) else old y + new (y 1)) else old y

/-- Where row `r` of a block lands in its 128 lanes. -/
def keep (a0 : BitVec 32) : IVec S32x128 1 :=
  k0_pay479 (iota .tc S32x128 32 [1] iota_S32x128_d1_w32) (iota .tc S32x128 32 [0] iota_S32x128_d0_w32)
    (Scalar.select (Scalar.cmpi .eq 4#32 0#32) 1#32 4#32) (Scalar.remsi a0 (Scalar.select (Scalar.cmpi .eq 4#32 0#32) 1#32 4#32)) 0#32

/-- The lane of row 0, as the kernel computes it. -/
def keepBase (a0 : BitVec 32) : BitVec 32 :=
  let v542 : BitVec 32 := Scalar.select (Scalar.cmpi .eq 4#32 0#32) 1#32 4#32
  let v543 : BitVec 32 := Scalar.remsi a0 v542
  Scalar.muli 32#32 (Scalar.select (Scalar.andi (Scalar.xori (Scalar.cmpi .slt v543 0#32) (Scalar.cmpi .slt v542 0#32)) (Scalar.cmpi .ne v543 0#32)) (Scalar.addi v543 v542) v543)

/-- The lane of row 0 is 32 times the point's place among its four. -/
theorem keepBase_eq : ∀ g : Fin 48, keepBase (BitVec.ofNat 32 g.val) = BitVec.ofNat 32 (32 * (g.val % 4)) := by decide +kernel

/-- Row `r` lands at lane `r + 32 (g % 4)`. -/
theorem keep_at (g : Fin 48) (r : Fin 32) (l : Fin 128) :
    keep (BitVec.ofNat 32 g.val) (at2 r l) = if l.val = r.val + 32 * (g.val % 4) then 1#1 else 0#1 := by
  have e : keep (BitVec.ofNat 32 g.val) (at2 r l)
      = Scalar.cmpi .eq ((iota .tc S32x128 32 [1] iota_S32x128_d1_w32 : IVec S32x128 32) (at2 r l)) ((iota .tc S32x128 32 [0] iota_S32x128_d0_w32 : IVec S32x128 32) (at2 r l) + keepBase (BitVec.ofNat 32 g.val)) := rfl
  have i1 : (iota .tc S32x128 32 [1] iota_S32x128_d1_w32 : IVec S32x128 32) (at2 r l) = BitVec.ofNat 32 l.val := by
    simp [iota, at2]
  have i0 : (iota .tc S32x128 32 [0] iota_S32x128_d0_w32 : IVec S32x128 32) (at2 r l) = BitVec.ofNat 32 r.val := by
    simp [iota, at2]
  rw [e, i1, i0, keepBase_eq, ← BitVec.ofNat_add]
  have hg : g.val % 4 < 4 := Nat.mod_lt _ (by omega)
  have : BitVec.ofNat 32 l.val = BitVec.ofNat 32 (r.val + 32 * (g.val % 4)) ↔ l.val = r.val + 32 * (g.val % 4) := by
    constructor
    · intro h
      have := congrArg BitVec.toNat h
      simp only [BitVec.toNat_ofNat] at this
      omega
    · intro h; rw [h]
  by_cases h : l.val = r.val + 32 * (g.val % 4)
  · rw [if_pos h, this.mpr h]; simp [Scalar.cmpi, IntOp.cmpi]
  · rw [if_neg h]; simp only [Scalar.cmpi, IntOp.cmpi, beq_eq_false_iff_ne.mpr (mt this.mp h)]; rfl

/-- Of the rows, a lane takes at most one. -/
theorem sum_one (g : ℕ) (f : Fin 32 → EReal) (l : Fin 128) : (∑ r : Fin 32, if l.val = r.val + 32 * (g % 4) then f r else 0) = contrib g f l := by
  unfold contrib
  by_cases h : l.val / 32 = g % 4
  · rw [if_pos h, Finset.sum_eq_single (⟨l.val % 32, Nat.mod_lt _ (by omega)⟩ : Fin 32)]
    · exact if_pos (by show l.val = l.val % 32 + 32 * (g % 4); omega)
    · intro r _ hr
      refine if_neg fun e => hr (Fin.ext ?_)
      show r.val = l.val % 32
      omega
    · intro h; exact absurd (Finset.mem_univ _) h
  · rw [if_neg h]
    refine Finset.sum_eq_zero fun r _ => if_neg fun e => h ?_
    omega

/-- The rows' values summed into the lanes: each lane holds one row's, or zero. -/
theorem spread_at (g : Fin 48) (v : FVec Ideal S32x128 .f32) (f : Fin 32 → EReal) (hv : ∀ (r : Fin 32) (l : Fin 128), (v (at2 r l) : EReal) = f r) (l : Fin 128) :
    (shapeCast S1x128 (multiReduction (F := Ideal) .add [0] S128 (select (keep (BitVec.ofNat 32 g.val)) v (broadcast S32x128 (Scalar.ofBits (F := Ideal) .f32 0x00000000#32)))
      0x00000000#32 reduces_S32x128_S128 (.inl rfl) rfl) shapeCasts_S128_S1x128 (at2 0 l) : EReal) = contrib g.val f l := by
  rw [shapeCast_apply _ _ (at2 0 l : S1x128.Idx) (at1 l : S128.Idx) (by
    rw [Shape.rowMajor_val_one, Shape.rowMajor_val_two]; show l.val = 0 * 128 + l.val; omega)]
  rw [Ideal.multiReduction_add_single (s := S32x128) (t := S128) (a := 0) _ 0x00000000#32 reduces_S32x128_S128 (.inl rfl) rfl _]
  have term : ∀ r : Fin 32, (select (keep (BitVec.ofNat 32 g.val)) v (broadcast S32x128 (Scalar.ofBits (F := Ideal) .f32 0x00000000#32))
      (reduces_S32x128_S128.lift (at1 l : S128.Idx) r) : EReal) = if l.val = r.val + 32 * (g.val % 4) then f r else 0 := by
    intro r
    have hl : reduces_S32x128_S128.lift (at1 l : S128.Idx) r = (at2 r l : S32x128.Idx) := eq_at2 _ _ _ rfl rfl
    rw [hl]
    show Scalar.select (keep (BitVec.ofNat 32 g.val) (at2 r l)) (v (at2 r l)) (Ideal.ofBits .f32 0x00000000#32) = _
    rw [keep_at, zero_word, ← hv r l]
    by_cases h : l.val = r.val + 32 * (g.val % 4)
    · simp [h, Scalar.select]
    · simp [h, Scalar.select]
  refine (Finset.sum_congr rfl fun r _ => term r).trans ?_
  exact sum_one g.val f l

/-- One row of twelve, written at `off`, leaves the others. -/
theorem write_row {κ : Kind} {sp : Space} (v : View sig κ sp S12x128 .f32) (f : v.ty.Contents (Elt Ideal)) (off : Fin 2 → ℕ) (R : ℕ) (hoff : off = ![R, 0])
    (h : ∀ a, off a + S1x128.size a ≤ S12x128.size a) (w : S1x128.Idx → EReal) (y : S12x128.Idx) :
    v.read (Elt Ideal) (v.writes (Elt Ideal) f [⟨Rect.unit (s := S12x128) off S1x128.size h, w⟩]) y
      = if (y 0).val = R then w (at2 0 (y 1)) else v.read (Elt Ideal) f y := by
  subst hoff
  by_cases hy : (y 0).val = R
  · rw [if_pos hy]
    exact View.read_writes_cons_hit_of_coords v f (Rect.unit (s := S12x128) ![R, 0] S1x128.size h) w [] (at2 0 (y 1) : S1x128.Idx) y (fun a => by
      match a with
      | 0 => show (y 0).val = R + 1 * 0; omega
      | 1 => show (y 1).val = 0 + 1 * (y 1).val; omega)
  · rw [if_neg hy]
    exact View.read_writes_cons_miss_of_axis v f _ [] y 0 R 1 rfl rfl rfl (by omega)

/-- What the body leaves in a small result's buffer. -/
theorem small_result {κ : Kind} {sp : Space} (v : View sig κ sp S12x128 .f32) (f : v.ty.Contents (Elt Ideal)) (old : S12x128.Idx → EReal) (hf : v.read (Elt Ideal) f = old)
    (i : grid0.Coords) (a : FVec Ideal S1x128 .f32) (new : Fin 128 → EReal) (ha : ∀ l, (a (at2 0 l) : EReal) = new l) (b : k0_cond2 i = 1#1 → FVec Ideal S1x128 .f32)
    (hb : ∀ hc, b hc = k0_pay1 a (v.readAt (Elt Ideal) (Rect.unit (s := S12x128) (k0_off7 i) S1x128.size (k0_off7_inb i hc)).toLoadRect
      (if hc : k0_cond1 i = 1#1 then v.writes (Elt Ideal) f [⟨Rect.unit (s := S12x128) (k0_off6 i) S1x128.size (k0_off6_inb i hc), a⟩] else f))) :
    v.read (Elt Ideal) (if hc : k0_cond2 i = 1#1 then
        v.writes (Elt Ideal) (if hc : k0_cond1 i = 1#1 then v.writes (Elt Ideal) f [⟨Rect.unit (s := S12x128) (k0_off6 i) S1x128.size (k0_off6_inb i hc), a⟩] else f)
          [⟨Rect.unit (s := S12x128) (k0_off7 i) S1x128.size (k0_off7_inb i hc), b hc⟩]
      else if hc : k0_cond1 i = 1#1 then v.writes (Elt Ideal) f [⟨Rect.unit (s := S12x128) (k0_off6 i) S1x128.size (k0_off6_inb i hc), a⟩] else f)
      = updated (i 0).val new old := by
  funext y
  by_cases hc2 : k0_cond2 i = 1#1
  · have hm : (i 0).val % 4 ≠ 0 := (cond2_iff i).mp hc2
    have hc1 : ¬ k0_cond1 i = 1#1 := fun h => hm ((cond1_iff i).mp h)
    rw [dif_pos hc2, hb hc2]
    simp only [dif_neg hc1]
    refine (write_row v f _ _ (off7_eq i) _ _ y).trans ?_
    show _ = if _ then (if _ then _ else _) else _
    rw [if_neg hm, hf]
    by_cases hy : (y 0).val = (i 0).val / 4
    · rw [if_pos hy, if_pos hy]
      have hl : (k0_pay1 a (v.readAt (Elt Ideal) (Rect.unit (s := S12x128) (k0_off7 i) S1x128.size (k0_off7_inb i hc2)).toLoadRect f) (at2 0 (y 1)) : EReal)
          = v.readAt (Elt Ideal) (Rect.unit (s := S12x128) (k0_off7 i) S1x128.size (k0_off7_inb i hc2)).toLoadRect f (at2 0 (y 1)) + a (at2 0 (y 1)) := by
        unfold k0_pay1
        rw [shapeCast_self]
        rfl
      refine hl.trans ?_
      refine congrArg₂ (· + ·) ?_ (ha (y 1))
      rw [← hf]
      refine congrArg (v.read (Elt Ideal) f) ?_
      refine (at2_eta (m := 12) (n := 128) y).symm ▸ eq_at2 _ _ _ ?_ ?_
      · rw [LoadRect.idx_apply]
        show k0_off7 i 0 + 1 * 0 = (y 0).val
        rw [off7_eq, hy]; rfl
      · rw [LoadRect.idx_apply]
        show k0_off7 i 1 + 1 * (y 1).val = (y 1).val
        rw [off7_eq]; show 0 + 1 * (y 1).val = _; omega
    · rw [if_neg hy, if_neg hy]
  · have hm : (i 0).val % 4 = 0 := not_not.mp (mt (cond2_iff i).mpr hc2)
    have hc1 : k0_cond1 i = 1#1 := (cond1_iff i).mpr hm
    rw [dif_neg hc2, dif_pos hc1]
    refine (write_row v f _ _ (off6_eq i) _ _ y).trans ?_
    show _ = if _ then (if _ then _ else _) else _
    rw [if_pos hm, hf]
    exact if_congr Iff.rfl (ha (y 1)) rfl

end Cert.KernelIdeal.Hand

end
-- ==== Proof.Links.lean ====
/-
  The body's three storing loops read at `Ideal`, as the loop states carry them: the masked logits, the exponentials, the rows'
  maxima, sums and counts, and the codes of the block.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Tail
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

variable (m : (ℓ : Loc nD τ sig) → Buf (Elt Ideal) ℓ) (ρ : Dev nD → PrngReg)

/-- The codes of a block. -/
def blockCodes (W : S32x1536.Idx → BitVec 32) (X : S32x49152.Idx → EReal) : S32x49152.Idx → EReal := fun y =>
  code (rowExp (masked W X (y 0)) (y 1)) (rowFac (masked W X (y 0)))

section Links
variable (c : Dev nD) (i : grid0.Coords)
  (arg1 : Memref sig .tc .vmem S32x49152 .bf16) (harg1 : arg1.IsWhole) (arg2 : Memref sig .tc .vmem S32x1536 .i32) (harg2 : arg2.IsWhole)
  (arg3 : Memref sig .tc .vmem S32x49152 .fp8e4m3) (harg3 : arg3.IsWhole) (arg4 : Memref sig .tc .vmem S12x128 .f32) (harg4 : arg4.IsWhole)
  (arg5 : Memref sig .tc .vmem S12x128 .f32) (harg5 : arg5.IsWhole) (arg6 : Memref sig .tc .vmem S2x24x8x128 .i32) (harg6 : arg6.IsWhole)
  (arg7 : Memref sig .tc .vmem S32x49152 .bf16) (harg7 : arg7.IsWhole) (arg8 : Memref sig .tc .vmem S32x49152 .f32) (harg8 : arg8.IsWhole)
  (W : S32x1536.Idx → BitVec 32) (X : S32x49152.Idx → EReal)
  (X1 : BufTy.Contents (Elt Ideal) arg1.view.ty) (h1 : arg1.view.read (Elt Ideal) X1 = X)
  (X6 : BufTy.Contents (Elt Ideal) arg6.view.ty) (h6 : arg6.view.read (Elt Ideal) X6 = words W)
  (G7 : BufTy.Contents (Elt Ideal) arg7.view.ty) (G8 : BufTy.Contents (Elt Ideal) arg8.view.ty) (arg0 : BitVec 32)

/-- The state of the masking loop before trip `n`. -/
def state1 (n : ℕ) : (FVec Ideal S16x128 .bf16 × FVec Ideal S16x128 .bf16) × List (View.Piece (Elt Ideal) S32x49152 .bf16) :=
  st_k0_t1 (F := Ideal) Variants.none c none i arg1 harg1 arg2 harg2 arg3 harg3 arg4 harg4 arg5 harg5 arg6 harg6 arg7 harg7 arg8 harg8
    laneNo laneBit (k0_pay459 laneNo) 16#32 k0_pay460 X1 X6 (k0_pay462, k0_pay462) n

/-- What the masking loop leaves in the buffer of the masked logits. -/
def contents7 : BufTy.Contents (Elt Ideal) arg7.view.ty :=
  arg7.view.writes (Elt Ideal) G7 (state1 c i arg1 harg1 arg2 harg2 arg3 harg3 arg4 harg4 arg5 harg5 arg6 harg6 arg7 harg7 arg8 harg8 X1 X6 k0_t1_loop.trips).2

/-- The maxima of the two tiles over the temperature. -/
def maxA : FVec Ideal S16x128 .f32 :=
  k0_pay466 (state1 c i arg1 harg1 arg2 harg2 arg3 harg3 arg4 harg4 arg5 harg5 arg6 harg6 arg7 harg7 arg8 harg8 X1 X6 k0_t1_loop.trips).1.1
/-- The second tile's. -/
def maxB : FVec Ideal S16x1 .f32 :=
  k0_pay467 (state1 c i arg1 harg1 arg2 harg2 arg3 harg3 arg4 harg4 arg5 harg5 arg6 harg6 arg7 harg7 arg8 harg8 X1 X6 k0_t1_loop.trips).1.2

/-- The state of the loop of the exponentials before trip `n`. -/
def state2 (n : ℕ) : (FVec Ideal S16x128 .f32 × FVec Ideal S16x128 .f32) × List (View.Piece (Elt Ideal) S32x49152 .f32) :=
  st_k0_t2 (F := Ideal) Variants.none c none i arg1 harg1 arg2 harg2 arg3 harg3 arg4 harg4 arg5 harg5 arg6 harg6 arg7 harg7 arg8 harg8
    arg0 (maxA c i arg1 harg1 arg2 harg2 arg3 harg3 arg4 harg4 arg5 harg5 arg6 harg6 arg7 harg7 arg8 harg8 X1 X6)
    (maxB c i arg1 harg1 arg2 harg2 arg3 harg3 arg4 harg4 arg5 harg5 arg6 harg6 arg7 harg7 arg8 harg8 X1 X6)
    (contents7 c i arg1 harg1 arg2 harg2 arg3 harg3 arg4 harg4 arg5 harg5 arg6 harg6 arg7 harg7 arg8 harg8 X1 X6 G7) (k0_pay469, k0_pay469) n

/-- The two tiles' running sums after the loop. -/
def sumA : FVec Ideal S16x128 .f32 := (state2 c i arg1 harg1 arg2 harg2 arg3 harg3 arg4 harg4 arg5 harg5 arg6 harg6 arg7 harg7 arg8 harg8 X1 X6 G7 arg0 k0_t2_loop.trips).1.1
/-- The second tile's. -/
def sumB : FVec Ideal S16x128 .f32 := (state2 c i arg1 harg1 arg2 harg2 arg3 harg3 arg4 harg4 arg5 harg5 arg6 harg6 arg7 harg7 arg8 harg8 X1 X6 G7 arg0 k0_t2_loop.trips).1.2

/-- The rows' counts. -/
def countOf : IVec S32x128 32 := Scf.fold (n := k0_t3_loop.trips) (fun k a => k0_pay476
  (sumA c i arg1 harg1 arg2 harg2 arg3 harg3 arg4 harg4 arg5 harg5 arg6 harg6 arg7 harg7 arg8 harg8 X1 X6 G7 arg0)
  (sumB c i arg1 harg1 arg2 harg2 arg3 harg3 arg4 harg4 arg5 harg5 arg6 harg6 arg7 harg7 arg8 harg8 X1 X6 G7 arg0) k a) k0_pay475

include h1 h6 in
/-- A trip of the loop of the maxima, over the mask words and logits of the block. -/
theorem state1_succ (k : Fin k0_t1_loop.trips) :
    state1 c i arg1 harg1 arg2 harg2 arg3 harg3 arg4 harg4 arg5 harg5 arg6 harg6 arg7 harg7 arg8 harg8 X1 X6 (k.val + 1)
      = (trip1 W X k (state1 c i arg1 harg1 arg2 harg2 arg3 harg3 arg4 harg4 arg5 harg5 arg6 harg6 arg7 harg7 arg8 harg8 X1 X6 k.val).1,
        pieces1 laneBit baseLane (words W) X k ++ (state1 c i arg1 harg1 arg2 harg2 arg3 harg3 arg4 harg4 arg5 harg5 arg6 harg6 arg7 harg7 arg8 harg8 X1 X6 k.val).2) := by
  unfold state1
  rw [st_k0_t1_succ, tripL1_eq, tripR1_eq, h1, h6]
  rfl

include h1 h6 in
/-- The masked logits as the buffer holds them. -/
theorem read7 : arg7.view.read (Elt Ideal) (contents7 c i arg1 harg1 arg2 harg2 arg3 harg3 arg4 harg4 arg5 harg5 arg6 harg6 arg7 harg7 arg8 harg8 X1 X6 G7) = maskedAt W X :=
  loop1_read W X _ rfl (state1_succ c i arg1 harg1 arg2 harg2 arg3 harg3 arg4 harg4 arg5 harg5 arg6 harg6 arg7 harg7 arg8 harg8 W X X1 h1 X6 h6) arg7.view G7

include h1 h6 in
/-- The first tile's maxima are those of rows 0 to 15. -/
theorem maxA_at (r : Fin 16) (l : Fin 128) :
    (maxA c i arg1 harg1 arg2 harg2 arg3 harg3 arg4 harg4 arg5 harg5 arg6 harg6 arg7 harg7 arg8 harg8 X1 X6 (at2 r l) : EReal) = rowMax (masked W X (tileRow 0 r)) :=
  pay466_at W X _ (loop1_max W X _ rfl (state1_succ c i arg1 harg1 arg2 harg2 arg3 harg3 arg4 harg4 arg5 harg5 arg6 harg6 arg7 harg7 arg8 harg8 W X X1 h1 X6 h6)).1 r l

include h1 h6 in
/-- The second tile's maxima are those of rows 16 to 31. -/
theorem maxB_at (r : Fin 16) :
    (maxB c i arg1 harg1 arg2 harg2 arg3 harg3 arg4 harg4 arg5 harg5 arg6 harg6 arg7 harg7 arg8 harg8 X1 X6 (at2 r 0) : EReal) = rowMax (masked W X (tileRow 1 r)) :=
  pay467_at W X _ (loop1_max W X _ rfl (state1_succ c i arg1 harg1 arg2 harg2 arg3 harg3 arg4 harg4 arg5 harg5 arg6 harg6 arg7 harg7 arg8 harg8 W X X1 h1 X6 h6)).2 r

include h1 h6 in
/-- A trip of the loop of the exponentials, over the masked logits of the block. -/
theorem state2_succ (k : Fin k0_t2_loop.trips) :
    state2 c i arg1 harg1 arg2 harg2 arg3 harg3 arg4 harg4 arg5 harg5 arg6 harg6 arg7 harg7 arg8 harg8 X1 X6 G7 arg0 (k.val + 1)
      = (trip2 (maskedAt W X) (maxA c i arg1 harg1 arg2 harg2 arg3 harg3 arg4 harg4 arg5 harg5 arg6 harg6 arg7 harg7 arg8 harg8 X1 X6)
          (maxB c i arg1 harg1 arg2 harg2 arg3 harg3 arg4 harg4 arg5 harg5 arg6 harg6 arg7 harg7 arg8 harg8 X1 X6) k
          (state2 c i arg1 harg1 arg2 harg2 arg3 harg3 arg4 harg4 arg5 harg5 arg6 harg6 arg7 harg7 arg8 harg8 X1 X6 G7 arg0 k.val).1,
        pieces2 (maxA c i arg1 harg1 arg2 harg2 arg3 harg3 arg4 harg4 arg5 harg5 arg6 harg6 arg7 harg7 arg8 harg8 X1 X6)
          (maxB c i arg1 harg1 arg2 harg2 arg3 harg3 arg4 harg4 arg5 harg5 arg6 harg6 arg7 harg7 arg8 harg8 X1 X6) (maskedAt W X) k
          ++ (state2 c i arg1 harg1 arg2 harg2 arg3 harg3 arg4 harg4 arg5 harg5 arg6 harg6 arg7 harg7 arg8 harg8 X1 X6 G7 arg0 k.val).2) := by
  unfold state2
  rw [st_k0_t2_succ, tripL2_eq, tripR2_eq, read7 c i arg1 harg1 arg2 harg2 arg3 harg3 arg4 harg4 arg5 harg5 arg6 harg6 arg7 harg7 arg8 harg8 W X X1 h1 X6 h6 G7]
  rfl

include h1 h6 in
/-- The exponentials as the buffer holds them. -/
theorem read8 : arg8.view.read (Elt Ideal) (arg8.view.writes (Elt Ideal) G8
      (state2 c i arg1 harg1 arg2 harg2 arg3 harg3 arg4 harg4 arg5 harg5 arg6 harg6 arg7 harg7 arg8 harg8 X1 X6 G7 arg0 k0_t2_loop.trips).2)
    = fun y => rowExp (masked W X (y 0)) (y 1) :=
  loop2_read (fun r => rowMax (masked W X r)) (maskedAt W X) _ _
    (maxA_at c i arg1 harg1 arg2 harg2 arg3 harg3 arg4 harg4 arg5 harg5 arg6 harg6 arg7 harg7 arg8 harg8 W X X1 h1 X6 h6)
    (maxB_at c i arg1 harg1 arg2 harg2 arg3 harg3 arg4 harg4 arg5 harg5 arg6 harg6 arg7 harg7 arg8 harg8 W X X1 h1 X6 h6) _ rfl
    (state2_succ c i arg1 harg1 arg2 harg2 arg3 harg3 arg4 harg4 arg5 harg5 arg6 harg6 arg7 harg7 arg8 harg8 W X X1 h1 X6 h6 G7 arg0) arg8.view G8

include h1 h6 in
/-- The rows' sums. -/
theorem sum_at (r : Fin 32) (l : Fin 128) :
    (k0_pay473 (sumA c i arg1 harg1 arg2 harg2 arg3 harg3 arg4 harg4 arg5 harg5 arg6 harg6 arg7 harg7 arg8 harg8 X1 X6 G7 arg0)
      (sumB c i arg1 harg1 arg2 harg2 arg3 harg3 arg4 harg4 arg5 harg5 arg6 harg6 arg7 harg7 arg8 harg8 X1 X6 G7 arg0) (at2 r l) : EReal) = rowSum (masked W X r) := by
  have h := loop2_sum (fun r => rowMax (masked W X r)) (maskedAt W X) _ _
    (maxA_at c i arg1 harg1 arg2 harg2 arg3 harg3 arg4 harg4 arg5 harg5 arg6 harg6 arg7 harg7 arg8 harg8 W X X1 h1 X6 h6)
    (maxB_at c i arg1 harg1 arg2 harg2 arg3 harg3 arg4 harg4 arg5 harg5 arg6 harg6 arg7 harg7 arg8 harg8 W X X1 h1 X6 h6) _ rfl
    (state2_succ c i arg1 harg1 arg2 harg2 arg3 harg3 arg4 harg4 arg5 harg5 arg6 harg6 arg7 harg7 arg8 harg8 W X X1 h1 X6 h6 G7 arg0)
  exact pay473_at _ _ _ _ h.1 h.2 r l

include h1 h6 in
/-- A row's count is the tally of its sum's reciprocal over 448. -/
theorem countOf_at (r : Fin 32) (l : Fin 128) :
    countOf c i arg1 harg1 arg2 harg2 arg3 harg3 arg4 harg4 arg5 harg5 arg6 harg6 arg7 harg7 arg8 harg8 X1 X6 G7 arg0 (at2 r l) = rowCount (masked W X r) :=
  (congrFun (Scf.fold_eq _ _) _).trans (count_at _ _ (fun r => rowSum (masked W X r)) (sum_at c i arg1 harg1 arg2 harg2 arg3 harg3 arg4 harg4 arg5 harg5 arg6 harg6 arg7 harg7 arg8 harg8 W X X1 h1 X6 h6 G7 arg0) r l)

include h1 h6 in
/-- The codes as the buffer holds them. -/
theorem read3 (X8 : BufTy.Contents (Elt Ideal) arg8.view.ty) (h8 : arg8.view.read (Elt Ideal) X8 = fun y => rowExp (masked W X (y 0)) (y 1))
    (G3 : BufTy.Contents (Elt Ideal) arg3.view.ty) (v504 : FVec Ideal S16x128 .f32) (v509 : FVec Ideal S16x1 .f32) :
    arg3.view.read (Elt Ideal) (arg3.view.writes (Elt Ideal) G3
      (pb_k0_t4 (F := Ideal) Variants.none c none i arg1 harg1 arg2 harg2 arg3 harg3 arg4 harg4 arg5 harg5 arg6 harg6 arg7 harg7 arg8 harg8 arg0 v504 v509
        (sumA c i arg1 harg1 arg2 harg2 arg3 harg3 arg4 harg4 arg5 harg5 arg6 harg6 arg7 harg7 arg8 harg8 X1 X6 G7 arg0)
        (sumB c i arg1 harg1 arg2 harg2 arg3 harg3 arg4 harg4 arg5 harg5 arg6 harg6 arg7 harg7 arg8 harg8 X1 X6 G7 arg0)
        (countOf c i arg1 harg1 arg2 harg2 arg3 harg3 arg4 harg4 arg5 harg5 arg6 harg6 arg7 harg7 arg8 harg8 X1 X6 G7 arg0) X8 k0_t4_loop.trips))
      = blockCodes W X :=
  loop4_read (fun r => rowFac (masked W X r)) (fun y => rowExp (masked W X (y 0)) (y 1))
    (codeFactor (sumA c i arg1 harg1 arg2 harg2 arg3 harg3 arg4 harg4 arg5 harg5 arg6 harg6 arg7 harg7 arg8 harg8 X1 X6 G7 arg0) (sumB c i arg1 harg1 arg2 harg2 arg3 harg3 arg4 harg4 arg5 harg5 arg6 harg6 arg7 harg7 arg8 harg8 X1 X6 G7 arg0) (countOf c i arg1 harg1 arg2 harg2 arg3 harg3 arg4 harg4 arg5 harg5 arg6 harg6 arg7 harg7 arg8 harg8 X1 X6 G7 arg0))
    (fun r l => by
      refine (pay478_at _ _ (fun r => rowSum (masked W X r)) (sum_at c i arg1 harg1 arg2 harg2 arg3 harg3 arg4 harg4 arg5 harg5 arg6 harg6 arg7 harg7 arg8 harg8 W X X1 h1 X6 h6 G7 arg0) (countOf c i arg1 harg1 arg2 harg2 arg3 harg3 arg4 harg4 arg5 harg5 arg6 harg6 arg7 harg7 arg8 harg8 X1 X6 G7 arg0) r l).trans ?_
      rw [countOf_at c i arg1 harg1 arg2 harg2 arg3 harg3 arg4 harg4 arg5 harg5 arg6 harg6 arg7 harg7 arg8 harg8 W X X1 h1 X6 h6 G7 arg0]
      rfl)
    (pb_k0_t4 (F := Ideal) Variants.none c none i arg1 harg1 arg2 harg2 arg3 harg3 arg4 harg4 arg5 harg5 arg6 harg6 arg7 harg7 arg8 harg8 arg0 v504 v509
        (sumA c i arg1 harg1 arg2 harg2 arg3 harg3 arg4 harg4 arg5 harg5 arg6 harg6 arg7 harg7 arg8 harg8 X1 X6 G7 arg0)
        (sumB c i arg1 harg1 arg2 harg2 arg3 harg3 arg4 harg4 arg5 harg5 arg6 harg6 arg7 harg7 arg8 harg8 X1 X6 G7 arg0)
        (countOf c i arg1 harg1 arg2 harg2 arg3 harg3 arg4 harg4 arg5 harg5 arg6 harg6 arg7 harg7 arg8 harg8 X1 X6 G7 arg0) X8) rfl
    (fun k => by rw [pb_k0_t4_succ, tripL4_eq, h8]) arg3.view G3
end Links

end Cert.KernelIdeal.Hand

end
-- ==== Proof.ValueRun.lean ====
/-
  The body of `KernelIdeal` at one grid point: from its blocks of logits and mask words it runs to its return, leaves the
  row codes in the block of codes, and adds the rows' logarithms and scales into their places of the two small results.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Links
public import Idealize.ShloMosaic.Lib.Pipeline.Frame
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

variable (m : (ℓ : Loc nD τ sig) → Buf (Elt Ideal) ℓ) (ρ : Dev nD → PrngReg)

/-- The body at grid coordinates `i`, for any continuation: from a block of logits, a block of mask words and any contents
    of the rest it runs to its return and hands every buffer back: the block of codes holds the codes of the masked rows,
    and each small result is the one before, `updated` with the rows' logarithms or scales; of the others nothing is said. -/
theorem runV (c : Dev nD) (i : grid0.Coords) (W : S32x1536.Idx → BitVec 32) (X : S32x49152.Idx → EReal) (y4 y5 : S12x128.Idx → EReal)
    (arg1 : Memref sig .tc .vmem S32x49152 .bf16) (harg1 : arg1.IsWhole) (arg2 : Memref sig .tc .vmem S32x1536 .i32) (harg2 : arg2.IsWhole)
    (arg3 : Memref sig .tc .vmem S32x49152 .fp8e4m3) (harg3 : arg3.IsWhole) (arg4 : Memref sig .tc .vmem S12x128 .f32) (harg4 : arg4.IsWhole)
    (arg5 : Memref sig .tc .vmem S12x128 .f32) (harg5 : arg5.IsWhole) (K : PUnit → sProp 𝕄) :
    iprop(owns (c : Thread nD τ) arg1 fullShare X ∗ owns (c : Thread nD τ) arg2 fullShare W
        ∗ (∃ d, owns (c : Thread nD τ) arg3 fullShare d) ∗ owns (c : Thread nD τ) arg4 fullShare y4
        ∗ owns (c : Thread nD τ) arg5 fullShare y5
        ∗ (∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)
        ∗ (iprop((∃ d, owns (c : Thread nD τ) arg1 fullShare d) ∗ (∃ d, owns (c : Thread nD τ) arg2 fullShare d)
            ∗ owns (c : Thread nD τ) arg3 fullShare (blockCodes W X)
            ∗ owns (c : Thread nD τ) arg4 fullShare (updated (i 0).val (contrib (i 0).val fun r => Ideal.log (rowSum (masked W X r))) y4)
            ∗ owns (c : Thread nD τ) arg5 fullShare (updated (i 0).val (contrib (i 0).val fun r => rowScale (masked W X r)) y5)
            ∗ (∃ d, owns (c : Thread nD τ) (Memref.whole cc0_scratch0) fullShare d)
            ∗ (∃ d, owns (c : Thread nD τ) (Memref.whole cc0_scratch1) fullShare d)
            ∗ (∃ d, owns (c : Thread nD τ) (Memref.whole cc0_scratch2) fullShare d)) -∗ K ⟨⟩))
      ⊢ wp frame (wpE (defs₀ (F := Ideal)) Variants.none c none) Set.univ
          (cc0_masked_softmax_fp8 i arg1 harg1 arg2 harg2 arg3 harg3 arg4 harg4 arg5 harg5 (Memref.whole cc0_scratch0) (Memref.isWhole_whole _)
            (Memref.whole cc0_scratch1) (Memref.isWhole_whole _) (Memref.whole cc0_scratch2) (Memref.isWhole_whole _)) K := by
  simp only [cc0_masked_softmax_fp8_eq_skeleton]; unfold cc0_masked_softmax_fp8_skel
  unfold owns
  iintro ⟨⟨%f1, %h1, H1⟩, ⟨%f2, %h2, H2⟩, ⟨%d3, %f3, -, H3⟩, ⟨%f4, %h4, H4⟩, ⟨%f5, %h5, H5⟩, ⟨%d6, %f6, -, H6⟩, ⟨%d7, %f7, -, H7⟩, ⟨%d8, %f8, -, H8⟩, Hk⟩
  sl_exec
  sl_step
  have e6 : runV.sl.H6_48 c arg2 f2 = pieces0 W := by rw [← h2]; rfl
  have h6 : (Memref.whole cc0_scratch0).view.read (Elt Ideal) ((Memref.whole cc0_scratch0).view.writes (Elt Ideal) (Memref.whole cc0_scratch0).view.junk (runV.sl.H6_48 c arg2 f2)) = words W := by
    rw [e6]
    exact funext fun y => View.read_writes_apply_of_pieces _ _ (words W) (pieces0 W) (pieces0_agree W) y (pieces0_cover W y)
  have e441 : runV.sl.v441 = laneBit := by rfl
  have e465 : runV.sl.v465 = k0_pay459 laneNo := by rfl
  have e439 : runV.sl.v439 = k0_pay460 := by rfl
  have e2 : runV.sl.r_2 c i arg1 harg1 arg2 harg2 arg3 harg3 arg4 harg4 arg5 harg5 f1 f2 f7 = countOf c i arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) f1 ((Memref.whole cc0_scratch0).view.writes (Elt Ideal) (Memref.whole cc0_scratch0).view.junk (runV.sl.H6_48 c arg2 f2)) f7 (BitVec.ofNat 32 (i 0).val) := by
    rfl
  have e554 : runV.sl.v554 i = keep (BitVec.ofNat 32 (i 0).val) := by rfl
  have e3 : runV.sl.r_3 c i arg1 harg1 arg2 harg2 arg3 harg3 arg4 harg4 arg5 harg5 f1 f2 f7 = k0_pay473 (sumA c i arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) f1 ((Memref.whole cc0_scratch0).view.writes (Elt Ideal) (Memref.whole cc0_scratch0).view.junk (runV.sl.H6_48 c arg2 f2)) f7 (BitVec.ofNat 32 (i 0).val)) (sumB c i arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) f1 ((Memref.whole cc0_scratch0).view.writes (Elt Ideal) (Memref.whole cc0_scratch0).view.junk (runV.sl.H6_48 c arg2 f2)) f7 (BitVec.ofNat 32 (i 0).val)) := by rfl
  have e559 : ∀ l : Fin 128, (runV.sl.v559 c i arg1 harg1 arg2 harg2 arg3 harg3 arg4 harg4 arg5 harg5 f1 f2 f7 (at2 0 l) : EReal)
      = contrib (i 0).val (fun r => Ideal.log (rowSum (masked W X r))) l := by
    intro l
    unfold runV.sl.v559 runV.sl.v558 runV.sl.v557 runV.sl.v555
    rw [e554, e3]
    exact spread_at (i 0) (log (k0_pay473 (sumA c i arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) f1 ((Memref.whole cc0_scratch0).view.writes (Elt Ideal) (Memref.whole cc0_scratch0).view.junk (runV.sl.H6_48 c arg2 f2)) f7 (BitVec.ofNat 32 (i 0).val)) (sumB c i arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) f1 ((Memref.whole cc0_scratch0).view.writes (Elt Ideal) (Memref.whole cc0_scratch0).view.junk (runV.sl.H6_48 c arg2 f2)) f7 (BitVec.ofNat 32 (i 0).val)))) _ (fun r l => congrArg Ideal.log (sum_at c i arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) W X f1 h1 _ h6 f7 (BitVec.ofNat 32 (i 0).val) r l)) l
  have e563 : ∀ l : Fin 128, (runV.sl.v563 c i arg1 harg1 arg2 harg2 arg3 harg3 arg4 harg4 arg5 harg5 f1 f2 f7 (at2 0 l) : EReal)
      = contrib (i 0).val (fun r => rowScale (masked W X r)) l := by
    intro l
    unfold runV.sl.v563 runV.sl.v562 runV.sl.v561
    have e4 : runV.sl.r_4 c i arg1 harg1 arg2 harg2 arg3 harg3 arg4 harg4 arg5 harg5 f1 f2 f7 = k0_pay477 (F := Ideal) (countOf c i arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) f1 ((Memref.whole cc0_scratch0).view.writes (Elt Ideal) (Memref.whole cc0_scratch0).view.junk (runV.sl.H6_48 c arg2 f2)) f7 (BitVec.ofNat 32 (i 0).val)) := by rw [← e2]; rfl
    rw [e554, e4]
    exact spread_at (i 0) (k0_pay477 (F := Ideal) (countOf c i arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) f1 ((Memref.whole cc0_scratch0).view.writes (Elt Ideal) (Memref.whole cc0_scratch0).view.junk (runV.sl.H6_48 c arg2 f2)) f7 (BitVec.ofNat 32 (i 0).val))) _ (fun r l => congrArg (fun n => Ideal.ofBits .f32 ((n + 1#32) <<< 23)) (countOf_at c i arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) W X f1 h1 _ h6 f7 (BitVec.ofNat 32 (i 0).val) r l)) l
  iapply Hk
  isplitl [H1]; · iexists _, _; isplitr; swap; (· iexact H1); ipureintro; rfl
  isplitl [H2]; · iexists _, _; isplitr; swap; (· iexact H2); ipureintro; rfl
  isplitl [H3]
  · iexists _; isplitr; swap; (· iexact H3)
    ipureintro
    exact read3 c i arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) W X f1 h1 _ h6 f7 (BitVec.ofNat 32 (i 0).val) _
      (read8 c i arg1 harg1 arg2 harg2 arg3 harg3 arg4 harg4 arg5 harg5 (Memref.whole cc0_scratch0) (Memref.isWhole_whole _) (Memref.whole cc0_scratch1) (Memref.isWhole_whole _) (Memref.whole cc0_scratch2) (Memref.isWhole_whole _) W X f1 h1 _ h6 f7 f8 (BitVec.ofNat 32 (i 0).val)) f3 _ _
  isplitl [H4]
  · iexists _; isplitr; swap; (· iexact H4)
    ipureintro
    exact small_result arg4.view f4 y4 h4 i _ _ e559 (fun hc => _) (fun hc => rfl)
  isplitl [H5]
  · iexists _; isplitr; swap; (· iexact H5)
    ipureintro
    exact small_result arg5.view f5 y5 h5 i _ _ e563 (fun hc => _) (fun hc => rfl)
  isplitl [H6]; · iexists _, _; isplitr; swap; (· iexact H6); ipureintro; rfl
  isplitl [H7]; · iexists _, _; isplitr; swap; (· iexact H7); ipureintro; rfl
  iexists _, _; isplitr; swap; (· iexact H8); ipureintro; rfl

end Cert.KernelIdeal.Hand

end
-- ==== Proof.ValueLaunch.lean ====
/-
  The launch of the ideal kernel with its values: what the body leaves in the three result buffers at a grid point, the
  pipeline's rule for it, and what the three result arrays hold when the launch has ended.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.ValueRun
public import proofs.«01_k».proof.Proof.KernelIdealFrame
public import Idealize.ShloMosaic.Lib.Pipeline.Frame
public import Idealize.ShloMosaic.Lib.Pipeline.ArrRel
public import Idealize.ShloMosaic.Lib.Pipeline.ValueKit
public import Idealize.ShloMosaic.Lib.Tactic

@[expose] public section

noncomputable section

namespace Cert.KernelIdeal.Launched

open Cert.KernelIdeal Cert.KernelIdeal.Gen
open Cert.KernelIdeal.Hand hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

variable (m : (ℓ : Loc nD τ sig) → Buf (Elt Ideal) ℓ) (ρ : Dev nD → PrngReg)

/-- The block of the first staged array, the values of 32 rows, that grid point `t` is handed. -/
def blkX (c : Dev nD) (t : Fin cfg0.N) : S32x49152.Idx → EReal := iblk (F := Ideal) m c 0 t

/-- The block of the second staged array, the mask words of the same 32 rows. -/
def blkW (c : Dev nD) (t : Fin cfg0.N) : S32x1536.Idx → BitVec 32 := iblk (F := Ideal) m c 1 t

/-- What the body may leave in window `w`'s buffer at point `t` when it found `Y` there: the codes of the point's rows; the
    two small arrays with the point's logarithms and scales written in; nothing is said of the inputs. -/
def afterV (c : Dev nD) (w : Fin cfg0.W) (t : Fin cfg0.N) (Y X : (cfg0.win w).block.Idx → Elt Ideal (cfg0.win w).elt) : Prop :=
  match w, Y, X with
  | ⟨0, _⟩, _, _ => True
  | ⟨1, _⟩, _, _ => True
  | ⟨2, _⟩, _, X => X = blockCodes (blkW m c t) (blkX m c t)
  | ⟨3, _⟩, Y, X => X = updated (grid0.coords t 0).val (contrib (grid0.coords t 0).val
      fun r => Ideal.log (rowSum (masked (blkW m c t) (blkX m c t) r))) Y
  | ⟨4, _⟩, Y, X => X = updated (grid0.coords t 0).val (contrib (grid0.coords t 0).val
      fun r => rowScale (masked (blkW m c t) (blkX m c t) r)) Y
  | ⟨n + 5, h⟩, _, _ => absurd h (Nat.not_lt.2 (Nat.le_add_left 5 n))

/-- The relational proof data with the values. -/
def rdatV (c : Dev nD) : RDat τ (Elt Ideal) Unit ℕ (UR sig nD τ) ℕ cfg0 c where
  A w := V m c (Pipeline.arrRef spec0 w)
  after := afterV m c
  Φ _ := Pipeline.ΦA spec0 c
  q _ := fullShare
  owed _ := 0

/-- What the body is called with at point `t`, the five staging buffers at `Y`. -/
def preV (c : Dev nD) (t : Fin cfg0.N) (Y : (w : Fin cfg0.W) → (cfg0.win w).block.Idx → Elt Ideal (cfg0.win w).elt) : sProp 𝕄 :=
  iprop((rdatV m c).Φ t.castSucc ∗ (rdatV m c).owesAt () t.castSucc
    ∗ owns (c : Thread nD τ) (st0_0 t) fullShare (Y 0) ∗ owns (c : Thread nD τ) (st0_1 t) fullShare (Y 1)
    ∗ owns (c : Thread nD τ) (st0_2 t) fullShare (Y 2) ∗ owns (c : Thread nD τ) (st0_3 t) fullShare (Y 3)
    ∗ owns (c : Thread nD τ) (st0_4 t) fullShare (Y 4))
/-- What it returns: the five staging buffers as `afterV` says. -/
def postV (c : Dev nD) (t : Fin cfg0.N) (Y : (w : Fin cfg0.W) → (cfg0.win w).block.Idx → Elt Ideal (cfg0.win w).elt) : sProp 𝕄 :=
  iprop((rdatV m c).Φ t.succ ∗ (rdatV m c).owesAt () t.succ
    ∗ (∃ X, ⌜(rdatV m c).after 0 t (Y 0) X⌝ ∗ owns (c : Thread nD τ) (st0_0 t) fullShare X)
    ∗ (∃ X, ⌜(rdatV m c).after 1 t (Y 1) X⌝ ∗ owns (c : Thread nD τ) (st0_1 t) fullShare X)
    ∗ (∃ X, ⌜(rdatV m c).after 2 t (Y 2) X⌝ ∗ owns (c : Thread nD τ) (st0_2 t) fullShare X)
    ∗ (∃ X, ⌜(rdatV m c).after 3 t (Y 3) X⌝ ∗ owns (c : Thread nD τ) (st0_3 t) fullShare X)
    ∗ (∃ X, ⌜(rdatV m c).after 4 t (Y 4) X⌝ ∗ owns (c : Thread nD τ) (st0_4 t) fullShare X))

/-- The body at point `t`, its two input buffers at the point's blocks, takes `preV` to `postV`. -/
theorem sound_bodyV (c : Dev nD) (t : Fin cfg0.N) (Y : (w : Fin cfg0.W) → (cfg0.win w).block.Idx → Elt Ideal (cfg0.win w).elt)
    (h0 : Y 0 = blkX m c t) (h1 : Y 1 = blkW m c t) :
    preV m c t Y ⊢ wp frame (wpE (defs₀ (F := Ideal)) Variants.none c none) Set.univ (bodyAt0 t) (fun _ => postV m c t Y) := by
  unfold preV postV bodyAt0
  rw [show (rdatV m c).Φ t.succ = (rdatV m c).Φ t.castSucc from rfl,
    show (rdatV m c).owesAt () t.succ = (rdatV m c).owesAt () t.castSucc from rfl,
    show (rdatV m c).Φ t.castSucc = Pipeline.ΦA spec0 c from rfl, PhiA_eq, h0, h1]
  iintro ⟨⟨⟨S0, S1, S2⟩, Hg⟩, HO, H0, H1, H2, H3, H4⟩
  iapply (runV c (grid0.coords t) (blkW m c t) (blkX m c t) (Y 3) (Y 4) (st0_0 t) _ (st0_1 t) _ (st0_2 t) _ (st0_3 t) _ (st0_4 t) _ _)
  isplitl [H0]; · iexact H0
  isplitl [H1]; · iexact H1
  isplitl [H2]; · iexists _; iexact H2
  isplitl [H3]; · iexact H3
  isplitl [H4]; · iexact H4
  isplitl [S0]; · iexact S0
  isplitl [S1]; · iexact S1
  isplitl [S2]; · iexact S2
  iintro ⟨⟨%x0, H0⟩, ⟨%x1, H1⟩, H2, H3, H4, S0, S1, S2⟩
  isplitl [S0 S1 S2 Hg]
  · isplitl [S0 S1 S2]
    · isplitl [S0]; · iexact S0
      isplitl [S1]; · iexact S1
      iexact S2
    iexact Hg
  isplitl [HO]; · iexact HO
  isplitl [H0]; · iexists x0; isplitr; (· ipureintro; exact trivial); iexact H0
  isplitl [H1]; · iexists x1; isplitr; (· ipureintro; exact trivial); iexact H1
  isplitl [H2]; · iexists _; isplitr; swap; (· iexact H2); ipureintro; rfl
  isplitl [H3]; · iexists _; isplitr; swap; (· iexact H3); ipureintro; rfl
  iexists _; isplitr; swap; (· iexact H4); ipureintro; rfl

/-- A point finds the block of the first array in its buffer. -/
theorem finds_X (c : Dev nD) (t : Fin cfg0.N) (Y : (cfg0.win 0).block.Idx → Elt Ideal (cfg0.win 0).elt)
    (h : (rdatV m c).Finds 0 t Y) : Y = blkX m c t := by
  obtain ⟨d, hd⟩ := ((rdatV m c).finds_of_fetch (fetch0_0 t) Y).1 h
  exact hd.trans rfl

/-- A point finds the block of the second array in its buffer. -/
theorem finds_W (c : Dev nD) (t : Fin cfg0.N) (Y : (cfg0.win 1).block.Idx → Elt Ideal (cfg0.win 1).elt)
    (h : (rdatV m c).Finds 1 t Y) : Y = blkW m c t := by
  obtain ⟨d, hd⟩ := ((rdatV m c).finds_of_fetch (fetch0_1 t) Y).1 h
  exact hd.trans rfl

/-- The body obligation of the pipeline rule. -/
theorem obligationV (c : Dev nD) :
    (rdatV m c).BodyObligation (defs₀ (F := Ideal)) Variants.none () Set.univ := fun t Y hY => by
  rw [bigSep_W0, bigSep_W0, defs₀_row]
  exact triple_restated (sound_bodyV m c t Y (finds_X m c t _ (hY 0)) (finds_W m c t _ (hY 1))) rfl .rfl fun _ => .rfl

-- the launch theorem's implicit arguments are found by unifying its conclusion with this statement
set_option backward.isDefEq.respectTransparency.types false in
/-- Every weakly fair execution of the launch terminates with the three result arrays as `rdatV` says. -/
theorem runV_main :
    θ_run defs (onTc (τ := τ) (main (F := Ideal))) (s₀ m ρ)
      (fun r => RDat.FramePost (cfgs 0) (fun c => rdatV m c) (V m) r ∧ r.2.sem = fun _ => 0) :=
  RDat.θ_run_frame (Q' := _) cfgs (0 : Fin 1) launch0 defs₀ Variants.none (fun c => rdatV m c) m ρ main
    (hbody := fun c => obligationV m c) (hshare := fun c => (rdatV m c).share_full fun _ => rfl)
    (howed := fun _ _ => rfl) (V := V m) (hmain := hmain m Variants.none) (hA := fun _ _ => rfl) (hΦ := fun _ _ => rfl)

end Cert.KernelIdeal.Launched

end
-- ==== Proof.ValueRead.lean ====
/-
  What the three result arrays of the ideal kernel hold when the launch has ended, read at an index and told of the rows of the
  argument arrays.
-/
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.ValueLaunch
public import proofs.«01_k».proof.Proof.KernelIdealFrame
public import Idealize.ShloMosaic.Lib.Pipeline.Frame
public import Idealize.ShloMosaic.Lib.Pipeline.ArrRel
public import Idealize.ShloMosaic.Lib.Pipeline.ValueKit
public import Idealize.ShloMosaic.Lib.Tactic
public import Idealize.ShloMosaic.Lib.Claim

@[expose] public section

noncomputable section

namespace Cert.KernelIdeal.Launched

open Cert.KernelIdeal Cert.KernelIdeal.Gen
open Cert.KernelIdeal.Hand hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

variable (m : (ℓ : Loc nD τ sig) → Buf (Elt Ideal) ℓ) (ρ : Dev nD → PrngReg)

/-- An index of three axes from its coordinates. -/
def at3 {a b d : ℕ} (i : Fin a) (j : Fin b) (k : Fin d) : (⟨3, ![a, b, d]⟩ : Shape).Idx := fun x => match x with
  | 0 => i
  | 1 => j
  | 2 => k

/-- Row `(R, L)` of the masked logits, from the argument arrays: the logit where bit `v % 32` of word `v / 32` of the row is set,
    `-∞` elsewhere. -/
def grow (x : S12x128x49152.Idx → EReal) (w : S12x128x1536.Idx → BitVec 32) (R : Fin 12) (L : Fin 128) (v : Fin 49152) : EReal :=
  if (w (at3 R L ⟨v.val / 32, by omega⟩)).getLsbD (v.val % 32) then x (at3 R L v) else ⊥

/-- Where the windows' blocks lie. -/
theorem win_idx : ∀ t : Fin cfg0.N, win0_0.index t = ![t.val, 0] ∧ win0_1.index t = ![t.val, 0] ∧ win0_2.index t = ![t.val, 0] := by
  decide +kernel

/-- The block of the logits at a point, read at an index, is the argument array at the row the block and the index name. -/
theorem blkX_at (c : Dev nD) (t : Fin cfg0.N) (r : Fin 32) (v : Fin 49152) (R : Fin 12) (L : Fin 128) (h : 128 * R.val + L.val = 32 * t.val + r.val) :
    blkX m c t (at2 r v) = m ((c : Thread nD τ).loc main_arg0) (at3 R L v) := by
  have e0 : (((View.whole main_v0).slice (win0_0.rect t)).emb (at2 r v) 0 : ℕ) = 32 * t.val + r.val := by
    blk_simp [(win_idx t).1]; show t.val * 32 + r.val = _; omega
  have e1 : (((View.whole main_v0).slice (win0_0.rect t)).emb (at2 r v) 1 : ℕ) = v.val := by
    blk_simp [(win_idx t).1]; rfl
  unfold blkX
  blk_simp [iblk]
  entry_read
  pointwise
  refine congrArg (m ((c : Thread nD τ).loc main_arg0)) ?_
  funext a; apply Fin.ext; match a with
  | 0 => exact (congrArg (· / 128) e0).trans (show (32 * t.val + r.val) / 128 = R.val by omega)
  | 1 => exact (congrArg (· % 128) e0).trans (show (32 * t.val + r.val) % 128 = L.val by omega)
  | 2 => exact e1

/-- The block of the mask words, likewise. -/
theorem blkW_at (c : Dev nD) (t : Fin cfg0.N) (r : Fin 32) (v : Fin 1536) (R : Fin 12) (L : Fin 128) (h : 128 * R.val + L.val = 32 * t.val + r.val) :
    blkW m c t (at2 r v) = m ((c : Thread nD τ).loc main_arg1) (at3 R L v) := by
  have e0 : (((View.whole main_v1).slice (win0_1.rect t)).emb (at2 r v) 0 : ℕ) = 32 * t.val + r.val := by
    blk_simp [(win_idx t).2.1]; show t.val * 32 + r.val = _; omega
  have e1 : (((View.whole main_v1).slice (win0_1.rect t)).emb (at2 r v) 1 : ℕ) = v.val := by
    blk_simp [(win_idx t).2.1]; rfl
  unfold blkW
  blk_simp [iblk]
  entry_read
  pointwise
  refine congrArg (m ((c : Thread nD τ).loc main_arg1)) ?_
  funext a; apply Fin.ext; match a with
  | 0 => exact (congrArg (· / 128) e0).trans (show (32 * t.val + r.val) / 128 = R.val by omega)
  | 1 => exact (congrArg (· % 128) e0).trans (show (32 * t.val + r.val) % 128 = L.val by omega)
  | 2 => exact e1

/-- The masked row `r` of the block at point `t` is the row of the arguments it is. -/
theorem masked_blk (c : Dev nD) (t : Fin cfg0.N) (r : Fin 32) (R : Fin 12) (L : Fin 128) (h : 128 * R.val + L.val = 32 * t.val + r.val) :
    masked (blkW m c t) (blkX m c t) r
      = grow (m ((c : Thread nD τ).loc main_arg0)) (m ((c : Thread nD τ).loc main_arg1)) R L := by
  funext v
  unfold masked permitted grow
  rw [blkW_at m c t r _ R L h, blkX_at m c t r v R L h]

/-! ## The codes -/

/-- The codes as a function of the argument arrays: at row `y 0` of the flattened rows and token `y 1`. -/
def codesOf (x : S12x128x49152.Idx → EReal) (w : S12x128x1536.Idx → BitVec 32) : S1536x49152.Idx → EReal := fun y =>
  have h : (y 0).val < 1536 := (y 0).isLt
  code (rowExp (grow x w ⟨(y 0).val / 128, by omega⟩ ⟨(y 0).val % 128, by omega⟩) (y 1))
    (rowFac (grow x w ⟨(y 0).val / 128, by omega⟩ ⟨(y 0).val % 128, by omega⟩))

/-- The array of codes after the launch. -/
theorem codes_final (c : Dev nD) (after : (w : Fin cfg0.W) → Fin cfg0.N → (cfg0.win w).block.Idx → Elt Ideal (cfg0.win w).elt)
    (hL : ∀ t, (rdatV m c).Leaves 2 t (after 2 t)) :
    ((rdatV m c).withAfter after).arrAt 2 cfg0.N
      = codesOf (m ((c : Thread nD τ).loc main_arg0)) (m ((c : Thread nD τ).loc main_arg1)) := by
  refine ((rdatV m c).withAfter after).arrAt_eq_of_covers 2 _ (by decide +kernel) fun t hf y => ?_
  obtain ⟨Y, -, hX⟩ := hL t
  have hX' : after 2 t = blockCodes (blkW m c t) (blkX m c t) := hX
  have e0 : (((cfg0.win 2).blk t).view.emb y 0 : ℕ) = 32 * t.val + (y 0).val := by
    blk_simp [(win_idx t).2.2]; exact congrArg (· + (y 0).val) (Nat.mul_comm _ _)
  have e1 : ((cfg0.win 2).blk t).view.emb y 1 = y 1 := by
    apply Fin.ext; blk_simp [(win_idx t).2.2]
  have hy : (y 0).val < 32 := (y 0).isLt
  have ht : t.val < 48 := t.isLt
  blk_simp
  show after 2 t y = _
  rw [hX']
  unfold blockCodes codesOf
  rw [masked_blk m c t (y 0) ⟨(32 * t.val + (y 0).val) / 128, by omega⟩ ⟨(32 * t.val + (y 0).val) % 128, by omega⟩
    (by show 128 * ((32 * t.val + (y 0).val) / 128) + (32 * t.val + (y 0).val) % 128 = 32 * t.val + (y 0).val; omega)]
  have er : ∀ (i j : Fin 12) (k l : Fin 128) (u v : Fin 49152), i = j → k = l → u = v → ∀ x w,
      code (rowExp (grow x w i k) u) (rowFac (grow x w i k)) = code (rowExp (grow x w j l) v) (rowFac (grow x w j l)) := by
    rintro i _ k _ u _ rfl rfl rfl x w; rfl
  exact er _ _ _ _ _ _ (Fin.ext (congrArg (· / 128) e0.symm)) (Fin.ext (congrArg (· % 128) e0.symm)) e1.symm _ _

/-! ## The two small results -/

/-- What holds of a small result before point `n`: an entry whose row has been reached is the value of its row of logits if that row has
    been met, and zero otherwise. -/
def Filled (f : Fin 48 → Fin 32 → EReal) (n : ℕ) (X : S12x128.Idx → EReal) : Prop :=
  ∀ (R : Fin 12) (L : Fin 128), 4 * R.val < n → X (at2 R L)
    = if 4 * R.val + L.val / 32 < n then f ⟨4 * R.val + L.val / 32, by omega⟩ ⟨L.val % 32, Nat.mod_lt _ (by omega)⟩ else 0

/-- One point keeps it. -/
theorem Filled.step (f : Fin 48 → Fin 32 → EReal) (t : Fin 48) (X : S12x128.Idx → EReal) (h : Filled f t.val X) :
    Filled f (t.val + 1) (updated t.val (contrib t.val (f t)) X) := by
  intro R L hR
  show (if R.val = t.val / 4 then (if t.val % 4 = 0 then contrib t.val (f t) L else X (at2 R L) + contrib t.val (f t) L) else X (at2 R L)) = _
  unfold contrib
  by_cases hr : R.val = t.val / 4
  · rw [if_pos hr]
    by_cases hl : L.val / 32 = t.val % 4
    · have ht : (⟨4 * R.val + L.val / 32, by omega⟩ : Fin 48) = t := Fin.ext (by show 4 * R.val + L.val / 32 = t.val; omega)
      have hlt : 4 * R.val + L.val / 32 < t.val + 1 := by omega
      rw [if_pos hl, if_pos hlt, ht]
      by_cases h0 : t.val % 4 = 0
      · rw [if_pos h0]
      · have hge : ¬ 4 * R.val + L.val / 32 < t.val := by omega
        rw [if_neg h0, h R L (by omega), if_neg hge, zero_add]
    · rw [if_neg hl]
      by_cases h0 : t.val % 4 = 0
      · have hge : ¬ 4 * R.val + L.val / 32 < t.val + 1 := by omega
        rw [if_pos h0, if_neg hge]
      · rw [if_neg h0, h R L (by omega), add_zero]
        exact if_congr (by omega) rfl rfl
  · rw [if_neg hr, h R L (by omega)]
    exact if_congr (by omega) rfl rfl

/-- If every point finds what the point before left and leaves the small result updated, each point leaves it filled. -/
theorem filled_of_steps (f : Fin 48 → Fin 32 → EReal) (Lv Fd : Fin 48 → (S12x128.Idx → EReal) → Prop)
    (hF : ∀ (t u : Fin 48) Y, u.val + 1 = t.val → Fd t Y → Lv u Y)
    (hL : ∀ t X, Lv t X → ∃ Y, Fd t Y ∧ X = updated t.val (contrib t.val (f t)) Y) :
    ∀ (n : ℕ) (hn : n < 48) X, Lv ⟨n, hn⟩ X → Filled f (n + 1) X
  | 0, hn, X, h => by
    obtain ⟨Y, -, rfl⟩ := hL _ X h
    exact Filled.step f ⟨0, hn⟩ Y fun R L h0 => absurd h0 (Nat.not_lt_zero _)
  | n + 1, hn, X, h => by
    obtain ⟨Y, hY, rfl⟩ := hL _ X h
    exact Filled.step f ⟨n + 1, hn⟩ Y (filled_of_steps f Lv Fd hF hL n (by omega) Y (hF ⟨n + 1, hn⟩ ⟨n, by omega⟩ Y rfl hY))

/-- The coordinate of a grid point is its number. -/
theorem coord_eq : ∀ t : Fin cfg0.N, (grid0.coords t 0).val = t.val := by decide +kernel

/-- What a point below the last finds of a small result is what the point before left. -/
theorem found_lse (c : Dev nD) (t u : Fin cfg0.N) (Y : (cfg0.win 3).block.Idx → Elt Ideal (cfg0.win 3).elt) (hu : u.val + 1 = t.val)
    (h : (rdatV m c).Finds 3 t Y) : (rdatV m c).Leaves 3 u Y := by
  have ht : t.val < 48 := t.isLt
  obtain rfl : u = ⟨t.val - 1, Nat.lt_of_le_of_lt (Nat.sub_le _ _) t.isLt⟩ := Fin.ext (by show u.val = t.val - 1; omega)
  rcases ((rdatV m c).finds_of_pos (w := 3) (by rfl) (by omega) Y).1 h with hf | hl
  · have h47 : (t.val - 1) % 48 = 47 := (flush0_3 _).mp hf
    omega
  · exact hl

/-- The same of the scales. -/
theorem found_scale (c : Dev nD) (t u : Fin cfg0.N) (Y : (cfg0.win 4).block.Idx → Elt Ideal (cfg0.win 4).elt) (hu : u.val + 1 = t.val)
    (h : (rdatV m c).Finds 4 t Y) : (rdatV m c).Leaves 4 u Y := by
  have ht : t.val < 48 := t.isLt
  obtain rfl : u = ⟨t.val - 1, Nat.lt_of_le_of_lt (Nat.sub_le _ _) t.isLt⟩ := Fin.ext (by show u.val = t.val - 1; omega)
  rcases ((rdatV m c).finds_of_pos (w := 4) (by rfl) (by omega) Y).1 h with hf | hl
  · have h47 : (t.val - 1) % 48 = 47 := (flush0_4 _).mp hf
    omega
  · exact hl

/-- The last grid point. -/
abbrev lastPoint : Fin cfg0.N := ⟨47, by decide +kernel⟩

/-- An entry of a filled small result, after the last point, is its row's value, read off the argument arrays. -/
theorem filled_last (c : Dev nD) (F : (Fin 49152 → EReal) → EReal) (X : S12x128.Idx → EReal)
    (h : Filled (fun t r => F (masked (blkW m c t) (blkX m c t) r)) 48 X) (R : Fin 12) (L : Fin 128) :
    X (at2 R L) = F (grow (m ((c : Thread nD τ).loc main_arg0)) (m ((c : Thread nD τ).loc main_arg1)) R L) := by
  refine (h R L (by omega)).trans ((if_pos (by omega)).trans (congrArg F ?_))
  exact masked_blk m c _ _ R L (by show 128 * R.val + L.val = 32 * (4 * R.val + L.val / 32) + L.val % 32; omega)

/-- A row's value as a small result: `F` of each row of the argument arrays. -/
def smallOf (F : (Fin 49152 → EReal) → EReal) (x : S12x128x49152.Idx → EReal) (w : S12x128x1536.Idx → BitVec 32) : S12x128.Idx → EReal :=
  fun y => F (grow x w (y 0) (y 1))

/-- The same at any index. -/
theorem filled_at (c : Dev nD) (F : (Fin 49152 → EReal) → EReal) (X : S12x128.Idx → EReal)
    (h : Filled (fun t r => F (masked (blkW m c t) (blkX m c t) r)) 48 X) (y : S12x128.Idx) :
    X y = smallOf F (m ((c : Thread nD τ).loc main_arg0)) (m ((c : Thread nD τ).loc main_arg1)) y :=
  (congrArg X (at2_eta y).symm).trans (filled_last m c F X h (y 0) (y 1))

/-- The array of logarithms after the launch. -/
theorem lse_final (c : Dev nD) (after : (w : Fin cfg0.W) → Fin cfg0.N → (cfg0.win w).block.Idx → Elt Ideal (cfg0.win w).elt)
    (hL : (rdatV m c).Leaves 3 lastPoint (after 3 lastPoint)) :
    ((rdatV m c).withAfter after).arrAt 3 cfg0.N
      = smallOf (fun f => Ideal.log (rowSum f)) (m ((c : Thread nD τ).loc main_arg0)) (m ((c : Thread nD τ).loc main_arg1)) := by
  have h : Filled (fun t r => Ideal.log (rowSum (masked (blkW m c t) (blkX m c t) r))) 48 (after 3 lastPoint) :=
    filled_of_steps _ (fun t X => (rdatV m c).Leaves 3 t X) (fun t X => (rdatV m c).Finds 3 t X)
      (fun t u Y hu hY => found_lse m c t u Y hu hY)
      (fun t X ⟨Y, hY, hX⟩ => ⟨Y, hY, by
        have e : X = updated (grid0.coords t 0).val (contrib (grid0.coords t 0).val
          fun r => Ideal.log (rowSum (masked (blkW m c t) (blkX m c t) r))) Y := hX
        rwa [coord_eq t] at e⟩) 47 (by omega) _ hL
  refine ((rdatV m c).withAfter after).arrAt_eq_of_after_last 3 lastPoint (by decide +kernel) _ fun j => ?_
  blk_simp
  exact filled_at m c (fun f => Ideal.log (rowSum f)) (after 3 lastPoint) h j

/-- The array of scales after the launch. -/
theorem scale_final (c : Dev nD) (after : (w : Fin cfg0.W) → Fin cfg0.N → (cfg0.win w).block.Idx → Elt Ideal (cfg0.win w).elt)
    (hL : (rdatV m c).Leaves 4 lastPoint (after 4 lastPoint)) :
    ((rdatV m c).withAfter after).arrAt 4 cfg0.N
      = smallOf rowScale (m ((c : Thread nD τ).loc main_arg0)) (m ((c : Thread nD τ).loc main_arg1)) := by
  have h : Filled (fun t r => rowScale (masked (blkW m c t) (blkX m c t) r)) 48 (after 4 lastPoint) :=
    filled_of_steps _ (fun t X => (rdatV m c).Leaves 4 t X) (fun t X => (rdatV m c).Finds 4 t X)
      (fun t u Y hu hY => found_scale m c t u Y hu hY)
      (fun t X ⟨Y, hY, hX⟩ => ⟨Y, hY, by
        have e : X = updated (grid0.coords t 0).val (contrib (grid0.coords t 0).val
          fun r => rowScale (masked (blkW m c t) (blkX m c t) r)) Y := hX
        rwa [coord_eq t] at e⟩) 47 (by omega) _ hL
  refine ((rdatV m c).withAfter after).arrAt_eq_of_after_last 4 lastPoint (by decide +kernel) _ fun j => ?_
  blk_simp
  exact filled_at m c rowScale (after 4 lastPoint) h j

/-- The run of the ideal kernel: the three result arrays as functions of the argument arrays, which end as they began. -/
theorem run_values :
    θ_run defs (onTc (τ := τ) (main (F := Ideal))) (s₀ m ρ) (fun r => ∀ c : Dev nD,
      r.2.mem ((c : Thread nD τ).loc main_v2_1) = smallOf (fun f => Ideal.log (rowSum f)) (m ((c : Thread nD τ).loc main_arg0)) (m ((c : Thread nD τ).loc main_arg1))
      ∧ r.2.mem ((c : Thread nD τ).loc main_v2_0) = codesOf (m ((c : Thread nD τ).loc main_arg0)) (m ((c : Thread nD τ).loc main_arg1))
      ∧ r.2.mem ((c : Thread nD τ).loc main_v2_2) = smallOf rowScale (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)) :=
  (runV_main m ρ).mono fun r h c => by
    obtain ⟨after, hL, hA⟩ := h.1.exists_exact c
    refine ⟨(hA 3).trans (lse_final m c after (hL 3 lastPoint ((flush0_3 _).mpr (by rfl)))), (hA 2).trans (codes_final m c after fun t => hL 2 t (flush0_2 t)),
      (hA 4).trans (scale_final m c after (hL 4 lastPoint ((flush0_4 _).mpr (by rfl)))), ?_, ?_⟩
    · exact ((h.1 c).2 main_arg0 (Pipeline.mem_restRefs_of main_arg0 (by decide) (by decide))).trans (V_main_arg0 m c)
    · exact ((h.1 c).2 main_arg1 (Pipeline.mem_restRefs_of main_arg1 (by decide) (by decide))).trans (V_main_arg1 m c)

end Cert.KernelIdeal.Launched

end
-- ==== Proof.RefRead.lean ====
/-
  What the reference's launch finds in the buffers its host operations wrote, read at an index and told of the rows of the argument
  arrays.
-/
module

public import proofs.«01_k».proof.Proof.Gen.ReferenceIdeal.Frame
public import Idealize.ShloMosaic.Lib.Pipeline.Frame
public import Idealize.ShloMosaic.Lib.Pipeline.ValueKit
public import Idealize.ShloMosaic.Lib.Tactic
public import Idealize.ShloMosaic.Lib.Claim
public import Idealize.ShloMosaic.Lib.StableHlo.ReadAt

@[expose] public section

noncomputable section

namespace Cert.ReferenceIdeal.Read

open Cert.ReferenceIdeal Cert.ReferenceIdeal.Gen
open Idealize.ShloMosaic Idealize.ShloMosaic.TcCoe Idealize.ShloMosaic.Tactic

variable (m : (ℓ : Loc nD τ sig) → Buf (Elt Ideal) ℓ)

/-- Row `(R, L)` of the reference's scaled and masked logits. -/
def zrow (x : S12x128x49152.Idx → EReal) (w : S12x128x1536.Idx → BitVec 32) (R : Fin 12) (L : Fin 128) (v : Fin 49152) : EReal :=
  Scalar.select
    (IntOp.cmpi .ne (IntOp.andi (IntOp.shrui .host (w (ix3 R L ⟨v.val / 32, by omega⟩)) (BitVec.ofNat 32 (v.val % 32))) 1#32) 0#32)
    (Ideal.div (x (ix3 R L v)) (Ideal.div (Ideal.ofBits .f32 0x40800000#32) (Ideal.ofBits .f32 0x40A00000#32)))
    (id (constant (F := Ideal) S_ .f32 0xFF800000#32) ix0)

/-- The reference's shifted exponential of a row. -/
def refExp (z : Fin 49152 → EReal) (v : Fin 49152) : EReal :=
  Ideal.exp (z v - Finset.fold max (Ideal.ofBits .f32 0xFF800000#32) z Finset.univ)

/-- Their sum. -/
def refSum (z : Fin 49152 → EReal) : EReal := ∑ v, refExp z v

/-- The logarithm of two. -/
def refLn2 : EReal := Ideal.log (Ideal.ofBits .f32 0x40000000#32)

/-- The logarithms before the launch, at an index. -/
theorem read_lse (c : Dev nD) (y : S12x128.Idx) : V m c main_v24 y
    = Ideal.log (refSum (zrow (m (c, Proc.tc.devRef main_arg0)) (m (c, Proc.tc.devRef main_arg1)) (y 0) (y 1))) := by
  unfold V
  simp only [List.flatten_cons, List.flatten_nil, List.append_nil]
  after_reads_at
  rfl

/-- The reference's exponent of a row's scale. -/
def refEx (z : Fin 49152 → EReal) : EReal :=
  Ideal.liftRound Int.floor (Ideal.div (Ideal.log (Ideal.div 1 (refSum z) * Ideal.ofBits .f32 0x3B124925#32)) refLn2) + 1

/-- The reference's scale of a row. -/
def refScale (z : Fin 49152 → EReal) : EReal := Ideal.exp (refEx z * refLn2)

/-- The reference's code of a row's token. -/
def refCode (z : Fin 49152 → EReal) (v : Fin 49152) : EReal :=
  min (id (constant (F := Ideal) S_ .f32 0x43E00000#32) ix0) (max (id (constant (F := Ideal) S_ .f32 0x00000000#32) ix0)
    (Ideal.div (refExp z v) (refSum z) * Ideal.exp (-(refEx z) * refLn2)))

/-- The scales before the launch, at an index. -/
theorem read_scale (c : Dev nD) (y : S12x128.Idx) : V m c main_v41 y
    = refScale (zrow (m (c, Proc.tc.devRef main_arg0)) (m (c, Proc.tc.devRef main_arg1)) (y 0) (y 1)) := by
  unfold V
  simp only [List.flatten_cons, List.flatten_nil, List.append_nil]
  after_reads_at
  rfl

/-- What the last launch is handed, at an index: the clipped codes before the cast. -/
theorem read_codes (c : Dev nD) (y : S1536x49152.Idx) : V m c main_v49 y
    = refCode (zrow (m (c, Proc.tc.devRef main_arg0)) (m (c, Proc.tc.devRef main_arg1)) ⟨(y 0).val / 128, (Nat.div_lt_iff_lt_mul (by omega)).2 (y 0).isLt⟩
        ⟨(y 0).val % 128, Nat.mod_lt _ (by omega)⟩) (y 1) := by
  unfold V
  simp only [List.flatten_cons, List.flatten_nil, List.append_nil]
  after_reads_at
  rfl

/-- The last launch casts, which on the extended reals changes nothing. -/
theorem cast_eq_self (x : Vec Ideal S1536x49152 .f32) (y : S1536x49152.Idx) : (out0_1 x y : EReal) = x y := by
  frame_out
  pointwise [k0_pay1]

/-- The launch has one point, whose block is the whole array. -/
theorem block_eq (c : Dev nD) (t : Fin cfg0.N) (y : S1536x49152.Idx) : iblk m c 0 t y = V m c main_v49 y := by
  have hi : ∀ t : Fin cfg0.N, win0_0.index t = ![0, 0] := by decide +kernel
  blk_simp [iblk]
  refine congrArg (V m c main_v49) ?_
  funext a; apply Fin.ext; match a with
  | 0 => blk_simp [hi t]
  | 1 => blk_simp [hi t]

/-- The last launch's result. -/
theorem cast_final (c : Dev nD) (t : Fin cfg0.N) (ht : (cfg0.win 1).WholeAt t) : (dats m 0 c).arrAt 1 cfg0.N = V m c main_v49 := by
  refine (dats m 0 c).arrAt_eq_of_after_last 1 t ht _ fun j => ?_
  blk_simp
  rw [after0_1]
  exact (cast_eq_self _ j).trans (block_eq m c t j)

/-- The run of the reference: its three results as functions of the argument arrays, which end as they began. -/
theorem run_values (ρ : Dev nD → PrngReg) :
    θ_run defs (onTc (τ := τ) (main (F := Ideal))) (s₀ m ρ) (fun r => ∀ c : Dev nD,
      (∀ y : S12x128.Idx, r.2.mem ((c : Thread nD τ).loc main_v24) y
        = Ideal.log (refSum (zrow (m ((c : Thread nD τ).loc main_arg0)) (m ((c : Thread nD τ).loc main_arg1)) (y 0) (y 1))))
      ∧ (∀ y : S1536x49152.Idx, r.2.mem ((c : Thread nD τ).loc main_v50) y
        = refCode (zrow (m ((c : Thread nD τ).loc main_arg0)) (m ((c : Thread nD τ).loc main_arg1))
            ⟨(y 0).val / 128, (Nat.div_lt_iff_lt_mul (by omega)).2 (y 0).isLt⟩ ⟨(y 0).val % 128, Nat.mod_lt _ (by omega)⟩) (y 1))
      ∧ (∀ y : S12x128.Idx, r.2.mem ((c : Thread nD τ).loc main_v41) y
        = refScale (zrow (m ((c : Thread nD τ).loc main_arg0)) (m ((c : Thread nD τ).loc main_arg1)) (y 0) (y 1)))
      ∧ r.2.mem ((c : Thread nD τ).loc main_arg0) = m ((c : Thread nD τ).loc main_arg0)
      ∧ r.2.mem ((c : Thread nD τ).loc main_arg1) = m ((c : Thread nD τ).loc main_arg1)) :=
  (run_main m ρ).mono fun r h c =>
    ⟨fun y => (congrFun ((h c).2 main_v24 (Pipeline.mem_restRefs_of main_v24 (by decide) (by decide))) y).trans (read_lse m c y),
     fun y => (congrFun (((h c).1 1).trans (cast_final m c ⟨0, by decide +kernel⟩ (by decide +kernel))) y).trans (read_codes m c y),
     fun y => (congrFun ((h c).2 main_v41 (Pipeline.mem_restRefs_of main_v41 (by decide) (by decide))) y).trans (read_scale m c y),
     ((h c).2 main_arg0 (Pipeline.mem_restRefs_of main_arg0 (by decide) (by decide))).trans (V_main_arg0 m c),
     ((h c).2 main_arg1 (Pipeline.mem_restRefs_of main_arg1 (by decide) (by decide))).trans (V_main_arg1 m c)⟩

end Cert.ReferenceIdeal.Read

end
-- ==== Proof.Math.lean ====
/-
  The row arithmetic of the kernel and of the reference on the extended reals: the two agree on a row whose largest permitted logit
  is a real number.
-/
module

public import proofs.«01_k».proof.Proof.Rows
public import proofs.«01_k».proof.Proof.RefRead

@[expose] public section

noncomputable section

namespace Cert.Hand

open Idealize.ShloMosaic
open Cert.KernelIdeal (κ)
open Cert.KernelIdeal.Hand
open Cert.ReferenceIdeal.Read (refExp refSum refLn2 refEx refScale refCode)

/-! ## The constants -/

/-- The named temperature is 4/5. -/
theorem temperature_val : Named.named (F := Ideal) (φ := .f32) κ "temperature" 0x3F4CCCCD#32 = (((4 / 5 : ℝ)) : EReal) := rfl
/-- The named `log2_e` is 1 / log 2. -/
theorem log2e_val : Named.named (F := Ideal) (φ := .f32) κ "log2_e" 0x3FB8AA3B#32 = (((Real.log 2)⁻¹ : ℝ) : EReal) := rfl
/-- The value of a positive normal word from its fields. -/
theorem word_val (b : BitVec 32) (n k : ℕ) (h : ((b.extractLsb' 31 1 == 1#1) = false ∧ (b.extractLsb' 23 8).toNat = n ∧ (b.extractLsb' 0 23).toNat = k))
    (h1 : 1 ≤ n) (h2 : n ≤ 254) : Ideal.ofBits .f32 b = (((2 ^ 23 + k : ℝ) * (2 : ℝ) ^ ((n : ℤ) - 150) : ℝ) : EReal) := by
  obtain ⟨e1, e2, e3⟩ := h
  have e : Ideal.ofBits .f32 b = Ideal.ieee 8 23 b := rfl
  rw [e]
  unfold Ideal.ieee
  dsimp only
  rw [e1, e2, e3, if_neg (by omega), if_neg (by omega)]
  refine congrArg Real.toEReal ?_
  have e4 : (n : ℤ) - (2 ^ (8 - 1) - 1) - (23 : ℕ) = (n : ℤ) - 150 := by norm_num; ring
  rw [e4]; push_cast; simp; exact .inl (by norm_num)

/-- The word of 1. -/
theorem one_word : Ideal.ofBits .f32 0x3F800000#32 = (((1 : ℝ)) : EReal) := by rw [word_val _ 127 0 (by decide) (by omega) (by omega)]; norm_num
/-- The word of 5/4. -/
theorem inv_word : Ideal.ofBits .f32 0x3FA00000#32 = (((5 / 4 : ℝ)) : EReal) := by rw [word_val _ 127 2097152 (by decide) (by omega) (by omega)]; norm_num
/-- The word of 2. -/
theorem two_word : Ideal.ofBits .f32 0x40000000#32 = (((2 : ℝ)) : EReal) := by rw [word_val _ 128 0 (by decide) (by omega) (by omega)]; norm_num
/-- The word of 4. -/
theorem four_word : Ideal.ofBits .f32 0x40800000#32 = (((4 : ℝ)) : EReal) := by rw [word_val _ 129 0 (by decide) (by omega) (by omega)]; norm_num
/-- The word of 5. -/
theorem five_word : Ideal.ofBits .f32 0x40A00000#32 = (((5 : ℝ)) : EReal) := by rw [word_val _ 129 2097152 (by decide) (by omega) (by omega)]; norm_num
/-- The word of the float32 nearest to 1/448. -/
theorem recip_word : Ideal.ofBits .f32 0x3B124925#32 = (((9586981 / 4294967296 : ℝ)) : EReal) := by rw [word_val _ 118 1198373 (by decide) (by omega) (by omega)]; norm_num

/-- Division of reals. -/
theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

/-- The reference's logarithm of two is log 2. -/
theorem ln2_val : refLn2 = ((Real.log 2 : ℝ) : EReal) := by
  unfold refLn2; rw [two_word]; show (if (2 : ℝ) ≤ 0 then ⊥ else ((Real.log 2 : ℝ) : EReal)) = _; rw [if_neg (by norm_num)]

/-- The fields of the word of exponent field `n` and no fraction. -/
theorem pow_fields : ∀ k : Fin 255, ((BitVec.ofNat 32 k.val <<< 23).extractLsb' 31 1 == 1#1) = false
    ∧ ((BitVec.ofNat 32 k.val <<< 23).extractLsb' 23 8).toNat = k.val ∧ ((BitVec.ofNat 32 k.val <<< 23).extractLsb' 0 23).toNat = 0 := by decide +kernel

/-- That word, of a normal number: a power of two. -/
theorem pow_word (n : ℕ) (h1 : 1 ≤ n) (h2 : n ≤ 254) : Ideal.ofBits .f32 (BitVec.ofNat 32 n <<< 23) = (((2 : ℝ) ^ ((n : ℤ) - 127) : ℝ) : EReal) := by
  rw [word_val _ n 0 (pow_fields ⟨n, by omega⟩) h1 h2]
  refine congrArg Real.toEReal ?_
  have : ((2 : ℝ)) ^ ((n : ℤ) - 127) = (2 : ℝ) ^ (23 : ℤ) * (2 : ℝ) ^ ((n : ℤ) - 150) := by
    rw [← zpow_add₀ (by norm_num)]; congr 1; ring
  rw [this]; norm_num

/-- The word of exponent field 255 and no fraction. -/
theorem top_word : Ideal.ofBits .f32 (BitVec.ofNat 32 255 <<< 23) = (⊤ : EReal) := by simp [Ideal.ofBits, Ideal.ieee]

/-! ## The masked logits, scaled -/

variable (f z : Fin 49152 → EReal) (hz : ∀ v, z v = Ideal.div (f v) (((4 / 5 : ℝ)) : EReal))

/-- Division by the temperature is multiplication by its reciprocal, of infinities too. -/
theorem div_temp (a : EReal) : Ideal.div a (((4 / 5 : ℝ)) : EReal) = a * (((5 / 4 : ℝ)) : EReal) := by
  have h0 : (((4 / 5 : ℝ)) : EReal) ≠ 0 := by exact_mod_cast (by norm_num : (4 / 5 : ℝ) ≠ 0)
  unfold Ideal.div
  rw [if_neg h0, ← EReal.coe_inv]; norm_num

/-- The largest element is an element. -/
theorem exists_top (g : Fin 49152 → EReal) : ∃ v, g v = ⨆ u, g u := exists_eq_ciSup_of_finite

include hz in
/-- The reference's largest scaled logit is the kernel's scaled largest logit. -/
theorem max_eq : Finset.fold max (Ideal.ofBits .f32 0xFF800000#32) z Finset.univ = rowMax f := by
  have h0 : (0 : EReal) ≤ (((5 / 4 : ℝ)) : EReal) := by exact_mod_cast (by norm_num : (0 : ℝ) ≤ 5 / 4)
  unfold rowMax
  rw [bot_word, temperature_val, div_temp]
  apply le_antisymm
  · rw [fold_max_le]
    intro v
    rw [hz, div_temp]
    exact mul_le_mul_of_nonneg_right (le_iSup f v) h0
  · obtain ⟨v, hv⟩ := exists_top f
    rw [← hv, ← div_temp, ← hz]
    exact (fold_max_le z _).1 le_rfl v

/-- A power of two to a multiple of the logarithm's base change is the exponential. -/
theorem exp2_eq (t : EReal) : Ideal.exp2 (t * (((Real.log 2)⁻¹ : ℝ) : EReal)) = Ideal.exp t := by
  have hl : (0 : ℝ) < (Real.log 2)⁻¹ := inv_pos.2 (Real.log_pos (by norm_num))
  induction t with
  | bot => rw [EReal.bot_mul_coe_of_pos hl]; rfl
  | top => rw [EReal.top_mul_coe_of_pos hl]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = _
    rw [Real.rpow_def_of_pos (by norm_num)]
    congr 1
    field_simp

include hz in
/-- The shifted exponentials agree. -/
theorem exp_eq (v : Fin 49152) : refExp z v = rowExp f v := by
  unfold refExp rowExp expo
  rw [max_eq f z hz, hz, inv_word, log2e_val, exp2_eq, div_temp]

include hz in
/-- Their sums agree. -/
theorem sum_eq : refSum z = rowSum f := Finset.sum_congr rfl fun v _ => exp_eq f z hz v

/-! ## A row whose largest permitted logit is real -/

/-- The sum of the shifted exponentials of such a row is a real number, at least one and at most the number of tokens. -/
theorem sum_real (a : ℝ) (ha : ⨆ v, f v = (a : EReal)) : ∃ s : ℝ, 1 ≤ s ∧ s ≤ 49152 ∧ rowSum f = (s : EReal)  := by
  have hM : rowMax f = ((a * (5 / 4) : ℝ) : EReal) := by
    unfold rowMax; rw [ha, temperature_val, div_temp, ← EReal.coe_mul]
  have hr : ∀ v, ∃ r : ℝ, 0 ≤ r ∧ r ≤ 1 ∧ rowExp f v = (r : EReal) := by
    intro v
    have hv : f v ≤ (a : EReal) := ha ▸ le_iSup f v
    unfold rowExp expo
    rw [log2e_val, exp2_eq, hM, inv_word]
    induction h : f v with
    | bot =>
      refine ⟨0, le_rfl, zero_le_one, ?_⟩
      rw [EReal.bot_mul_coe_of_pos (by norm_num), EReal.bot_sub]; rfl
    | top => rw [h] at hv; exact absurd hv (by simp)
    | coe x =>
      rw [h] at hv
      have hx : x ≤ a := by exact_mod_cast hv
      refine ⟨Real.exp (x * (5 / 4) - a * (5 / 4)), (Real.exp_pos _).le, Real.exp_le_one_iff.2 (by linarith), ?_⟩
      rw [← EReal.coe_mul, ← EReal.coe_sub]; rfl
  choose r h0 h1 hr using hr
  obtain ⟨v, hv⟩ := exists_top f
  have hv1 : r v = 1 := by
    have e := hr v
    unfold rowExp expo at e
    rw [log2e_val, exp2_eq, hM, inv_word, hv, ha, ← EReal.coe_mul, ← EReal.coe_sub, sub_self] at e
    have e' : ((Real.exp 0 : ℝ) : EReal) = (r v : EReal) := e
    rw [Real.exp_zero] at e'
    exact_mod_cast e'.symm
  refine ⟨∑ u, r u, ?_, ?_, ?_⟩
  · rw [← hv1]; exact Finset.single_le_sum (f := r) (fun u _ => h0 u) (Finset.mem_univ v)
  · refine (Finset.sum_le_sum fun u _ => h1 u).trans ?_
    simp
  · unfold rowSum
    rw [Finset.sum_congr rfl fun u _ => hr u]
    exact (map_sum (⟨⟨Real.toEReal, EReal.coe_zero⟩, EReal.coe_add⟩ : ℝ →+ EReal) r Finset.univ).symm

/-! ## The scale -/

/-- The count of the powers of two up to `y`, for a `y` that lies between the normal powers `N` and `N + 1`. -/
theorem tally_real (y : ℝ) (N : ℕ) (h1 : 1 ≤ N) (h2 : N ≤ 253) (lo : (2 : ℝ) ^ ((N : ℤ) - 127) ≤ y) (hi : y < (2 : ℝ) ^ ((N : ℤ) + 1 - 127)) :
    ∀ n ≤ 254, tally (y : EReal) n = BitVec.ofNat 32 (min n N)
  | 0, _ => by rw [Nat.zero_min]; rfl
  | n + 1, hn => by
    have ih := tally_real y N h1 h2 lo hi n (by omega)
    unfold tally
    rw [ih, pow_word (n + 1) (by omega) hn]
    by_cases h : N < n + 1
    · have hlt : y < (2 : ℝ) ^ (((n + 1 : ℕ) : ℤ) - 127) := hi.trans_le (zpow_le_zpow_right₀ (by norm_num) (by omega))
      rw [decide_eq_true (EReal.coe_lt_coe_iff.2 hlt), Nat.min_eq_right (by omega), Nat.min_eq_right (by omega)]
      exact BitVec.add_zero _
    · have hge : ¬ y < (2 : ℝ) ^ (((n + 1 : ℕ) : ℤ) - 127) := not_lt.2 ((zpow_le_zpow_right₀ (by norm_num) (by omega)).trans lo)
      rw [decide_eq_false (fun h' => hge (EReal.coe_lt_coe_iff.1 h')), Nat.min_eq_left (by omega), Nat.min_eq_left (by omega)]
      exact (BitVec.ofNat_add n 1).symm

/-- The whole count. -/
theorem tally_all (y : ℝ) (N : ℕ) (h1 : 1 ≤ N) (h2 : N ≤ 253) (lo : (2 : ℝ) ^ ((N : ℤ) - 127) ≤ y) (hi : y < (2 : ℝ) ^ ((N : ℤ) + 1 - 127)) :
    tally (y : EReal) 255 = BitVec.ofNat 32 N := by
  unfold tally
  rw [tally_real y N h1 h2 lo hi 254 le_rfl, top_word, decide_eq_true (EReal.coe_lt_top y), Nat.min_eq_right (by omega)]
  exact BitVec.add_zero _

/-- The exponential of a whole multiple of the logarithm of two. -/
theorem exp_ln2 (k : ℤ) : Real.exp ((k : ℝ) * Real.log 2) = (2 : ℝ) ^ k := by
  rw [← Real.rpow_intCast, Real.rpow_def_of_pos (by norm_num), mul_comm]

/-- On a row whose exponentials sum to the real `s`: the reciprocal, and one whole number `k` from which both programs have the scale and
    its reciprocal. -/
theorem scale_facts (s : ℝ) (hs1 : 1 ≤ s) (hs2 : s ≤ 49152) (hs : rowSum f = (s : EReal)) :
    rowInv f = ((1 / s : ℝ) : EReal) ∧ ∃ k : ℤ,
      Ideal.liftRound Int.floor (Ideal.div (Ideal.log (Ideal.div 1 (s : EReal) * Ideal.ofBits .f32 0x3B124925#32)) refLn2) = ((k : ℝ) : EReal)
      ∧ rowScale f = (((2 : ℝ) ^ (k + 1) : ℝ) : EReal)
      ∧ rowFac f = ((1 / s * (2 : ℝ) ^ (-(k + 1)) : ℝ) : EReal) := by
  have hs0 : s ≠ 0 := by linarith
  have hspos : 0 < s := by linarith
  have hinv : rowInv f = ((1 / s : ℝ) : EReal) := by unfold rowInv; rw [hs, one_word, div_coe _ _ hs0]
  refine ⟨hinv, ?_⟩
  have hy : Ideal.div 1 (s : EReal) * Ideal.ofBits .f32 0x3B124925#32 = ((1 / s * (9586981 / 4294967296) : ℝ) : EReal) := by
    rw [recip_word, ← EReal.coe_one, div_coe _ _ hs0, ← EReal.coe_mul]
  have hy' : rowInv f * Ideal.ofBits .f32 0x3B124925#32 = ((1 / s * (9586981 / 4294967296) : ℝ) : EReal) := by
    rw [hinv, recip_word, ← EReal.coe_mul]
  have hlo : (2 : ℝ) ^ (-25 : ℤ) ≤ 1 / s * (9586981 / 4294967296) := by
    have : 1 / 49152 ≤ 1 / s := one_div_le_one_div_of_le hspos hs2
    norm_num at this ⊢; linarith
  have hhi : 1 / s * (9586981 / 4294967296) < (2 : ℝ) ^ (-8 : ℤ) := by
    have : 1 / s ≤ 1 / 1 := one_div_le_one_div_of_le one_pos hs1
    norm_num at this ⊢; linarith
  rw [hy]
  generalize 1 / s * (9586981 / 4294967296) = y at hy' hlo hhi
  have hypos : 0 < y := lt_of_lt_of_le (by positivity) hlo
  have hl2 : 0 < Real.log 2 := Real.log_pos (by norm_num)
  obtain ⟨k, hkf⟩ : ∃ k : ℤ, ⌊Real.log y / Real.log 2⌋ = k := ⟨_, rfl⟩
  have hk1 : (2 : ℝ) ^ k ≤ y := by
    have h := (le_div_iff₀ hl2).1 (hkf ▸ Int.floor_le (Real.log y / Real.log 2))
    rw [← exp_ln2]; exact (Real.exp_le_exp.2 h).trans_eq (Real.exp_log hypos)
  have hk2 : y < (2 : ℝ) ^ (k + 1) := by
    have h := (div_lt_iff₀ hl2).1 (hkf ▸ Int.lt_floor_add_one (Real.log y / Real.log 2))
    rw [← exp_ln2]; push_cast; exact (Real.exp_log hypos).symm.trans_lt (Real.exp_lt_exp.2 h)
  have hkl : -25 < k + 1 := (zpow_lt_zpow_iff_right₀ (by norm_num : (1 : ℝ) < 2)).1 (hlo.trans_lt hk2)
  have hku : k < -8 := (zpow_lt_zpow_iff_right₀ (by norm_num : (1 : ℝ) < 2)).1 (hk1.trans_lt hhi)
  obtain ⟨N, hN⟩ : ∃ N : ℕ, (N : ℤ) = k + 127 := ⟨(k + 127).toNat, Int.toNat_of_nonneg (by omega)⟩
  have hcount : rowCount f = BitVec.ofNat 32 N := by
    unfold rowCount
    rw [hy']
    exact tally_all y N (by omega) (by omega) (by rw [show (N : ℤ) - 127 = k by omega]; exact hk1) (by rw [show (N : ℤ) + 1 - 127 = k + 1 by omega]; exact hk2)
  refine ⟨k, ?_, ?_, ?_⟩
  · have hlog : Ideal.log (y : EReal) = ((Real.log y : ℝ) : EReal) := if_neg (not_le.2 hypos)
    rw [hlog, ln2_val, div_coe _ _ (Real.log_pos (by norm_num)).ne', ← hkf]; rfl
  · unfold rowScale
    rw [hcount, show BitVec.ofNat 32 N + 1#32 = BitVec.ofNat 32 (N + 1) from (BitVec.ofNat_add N 1).symm, pow_word (N + 1) (by omega) (by omega),
      show ((N + 1 : ℕ) : ℤ) - 127 = k + 1 by omega]
  · unfold rowFac
    have hsub : 253#32 - BitVec.ofNat 32 N = BitVec.ofNat 32 (253 - N) := by
      apply BitVec.eq_of_toNat_eq
      simp only [BitVec.toNat_sub, BitVec.toNat_ofNat]
      omega
    rw [hcount, hsub, pow_word (253 - N) (by omega) (by omega), hinv, ← EReal.coe_mul, show ((253 - N : ℕ) : ℤ) - 127 = -(k + 1) by omega]

include hz in
/-- The scales and the codes agree on a row whose largest permitted logit is real. -/
theorem scale_code_eq (a : ℝ) (ha : ⨆ v, f v = (a : EReal)) : rowScale f = refScale z ∧ ∀ v, code (rowExp f v) (rowFac f) = refCode z v := by
  obtain ⟨s, hs1, hs2, hs⟩ := sum_real f a ha
  obtain ⟨hinv, k, hk, hscale, hfac⟩ := scale_facts f s hs1 hs2 hs
  have hex : refEx z = (((k + 1 : ℤ) : ℝ) : EReal) := by
    unfold refEx; rw [sum_eq f z hz, hs, hk]; push_cast; rfl
  constructor
  · unfold refScale
    rw [hscale, hex, ln2_val, ← EReal.coe_mul]
    exact congrArg Real.toEReal (exp_ln2 (k + 1)).symm
  · intro v
    have he : Ideal.exp (-(refEx z) * refLn2) = (((2 : ℝ) ^ (-(k + 1)) : ℝ) : EReal) := by
      rw [hex, ln2_val, ← EReal.coe_neg, ← EReal.coe_mul]
      refine congrArg Real.toEReal ?_
      rw [← exp_ln2 (-(k + 1))]; push_cast; rfl
    have hd : ∀ e : EReal, Ideal.div e (s : EReal) = e * ((1 / s : ℝ) : EReal) := by
      intro e
      have h0 : (s : EReal) ≠ 0 := by exact_mod_cast (by linarith : s ≠ 0)
      unfold Ideal.div
      rw [if_neg h0, ← EReal.coe_inv, one_div]
    unfold refCode code
    rw [he, sum_eq f z hz, hs, hd, exp_eq f z hz, hfac, EReal.coe_mul, mul_assoc]
    rfl

end Cert.Hand

end
-- ==== Proof.Tie.lean ====
/-
  The two programs compared: the rows the two sides read off the arguments, the precondition read on a row, and the three results.
-/
module

public import proofs.«01_k».proof.Proof.ValueRead
public import proofs.«01_k».proof.Proof.Math
public import proofs.«01_k».proof.Pre_finite_rows
public import proofs.«01_k».proof.Proof.Gen.Pre_finite_rows

@[expose] public section

noncomputable section

namespace Cert.Hand

open Idealize.ShloMosaic Idealize.ShloMosaic.TcCoe Idealize.ShloMosaic.Tactic
open Cert.KernelIdeal.Launched (at3 grow codesOf smallOf)
open Cert.ReferenceIdeal.Read (zrow refSum refScale refCode)
open Cert.KernelIdeal (S12x128x49152 S12x128x1536 S12x128 S1536x49152)

variable (x : S12x128x49152.Idx → EReal) (w : S12x128x1536.Idx → BitVec 32)

/-- The bit of a word, as a program tests it. -/
theorem bit_test (a : BitVec 32) (n : ℕ) (h : n < 32) :
    IntOp.cmpi .ne (IntOp.andi (IntOp.shrui .host a (BitVec.ofNat 32 n)) 1#32) 0#32 = BitVec.ofBool (a.getLsbD n) := by
  have hn : (BitVec.ofNat 32 n).toNat = n := by rw [BitVec.toNat_ofNat]; omega
  have hs : IntOp.shrui .host a (BitVec.ofNat 32 n) = a >>> n := by
    unfold IntOp.shrui; rw [if_pos (by rw [hn]; exact h)]
    show a >>> (BitVec.ofNat 32 n).toNat = _
    rw [hn]
  rw [hs]
  have hb : (a >>> n) &&& 1#32 = if a.getLsbD n then 1#32 else 0#32 := by
    ext i hi
    cases hg : a.getLsbD n <;> rcases i with _ | i <;> simp [hg]
  show BitVec.ofBool ((a >>> n) &&& 1#32 != 0#32) = _
  rw [hb]
  cases a.getLsbD n <;> rfl

/-- The index spelt two ways. -/
theorem ix3_eq {a b d : ℕ} (i : Fin a) (j : Fin b) (k : Fin d) : (ix3 i j k : (⟨3, ![a, b, d]⟩ : Shape).Idx) = at3 i j k := by
  funext q; match q with
  | 0 => rfl
  | 1 => rfl
  | 2 => rfl

/-- A choice by the tested bit. -/
theorem select_bit (R : Fin 12) (L : Fin 128) (v : Fin 49152) (p q : EReal) :
    Scalar.select (IntOp.cmpi .ne (IntOp.andi (IntOp.shrui .host (w (ix3 R L ⟨v.val / 32, by omega⟩)) (BitVec.ofNat 32 (v.val % 32))) 1#32) 0#32) p q
      = if (w (at3 R L ⟨v.val / 32, by omega⟩)).getLsbD (v.val % 32) then p else q := by
  rw [bit_test _ _ (by omega), ix3_eq]
  cases (w (at3 R L ⟨v.val / 32, by omega⟩)).getLsbD (v.val % 32) <;> rfl

/-- The reference's row is the masked row divided by the temperature. -/
theorem zrow_eq (R : Fin 12) (L : Fin 128) (v : Fin 49152) : zrow x w R L v = Ideal.div (grow x w R L v) (((4 / 5 : ℝ)) : EReal) := by
  unfold zrow grow
  have hq : Ideal.div (Ideal.ofBits .f32 0x40800000#32) (Ideal.ofBits .f32 0x40A00000#32) = (((4 / 5 : ℝ)) : EReal) := by
    rw [four_word, five_word, div_coe _ _ (by norm_num)]
  rw [hq, select_bit, ix3_eq]
  split
  · rfl
  · rw [div_temp, EReal.bot_mul_coe_of_pos (by norm_num)]
    exact Cert.KernelIdeal.Hand.bot_word

/-- The masked row as the precondition writes it. -/
def seen (R : Fin 12) (L : Fin 128) (v : Fin 49152) : Ideal .f32 :=
  Scalar.select (IntOp.cmpi .ne (IntOp.andi (IntOp.shrui .host (w (ix3 R L ⟨v.val / 32, by omega⟩)) (BitVec.ofNat 32 (v.val % 32))) 1#32) 0#32)
    (x (ix3 R L v)) (id (constant (F := Ideal) Cert.Pre_finite_rows.S_ .f32 0xFF800000#32) ix0)

/-- It is the masked row. -/
theorem seen_eq (R : Fin 12) (L : Fin 128) : seen x w R L = grow x w R L := by
  funext v
  unfold seen grow
  rw [select_bit, ix3_eq]
  split
  · rfl
  · exact Cert.KernelIdeal.Hand.bot_word

/-- The maximum the precondition takes of it is its supremum. -/
theorem seen_max (R : Fin 12) (L : Fin 128) :
    Finset.fold max (Ideal.ofBits .f32 0xFF800000#32) (seen x w R L) Finset.univ = ⨆ v, grow x w R L v := by
  rw [seen_eq, Cert.KernelIdeal.Hand.bot_word]
  refine le_antisymm ((Cert.KernelIdeal.Hand.fold_max_le _ _).2 fun v => le_iSup (grow x w R L) v) (iSup_le fun v => ?_)
  exact (Cert.KernelIdeal.Hand.fold_max_le _ _).1 le_rfl v

/-- The word of plus infinity. -/
theorem inf_word : Ideal.ofBits .f32 0x7F800000#32 = (⊤ : EReal) := by simp [Ideal.ofBits, Ideal.ieee]

/-- Two decided bits whose conjunction is one both hold. -/
theorem both_of_andi {p q : Prop} [Decidable p] [Decidable q]
    (h : IntOp.andi (BitVec.ofBool (decide p)) (BitVec.ofBool (decide q)) = 1#1) : p ∧ q := by
  by_cases hp : p <;> by_cases hq : q <;> simp [IntOp.andi, hp, hq] at h ⊢

/-- A value strictly between the two infinities' words is a real number. -/
theorem real_of_between (F t : EReal) (h : F = t) (lo : Ideal.ofBits .f32 0xFF800000#32 < F) (hi : F < Ideal.ofBits .f32 0x7F800000#32) :
    ∃ a : ℝ, t = (a : EReal) := by
  subst h
  rw [Cert.KernelIdeal.Hand.bot_word] at lo
  rw [inf_word] at hi
  exact ⟨F.toReal, (EReal.coe_toReal hi.ne lo.ne').symm⟩

/-- The precondition's two comparisons of a row maximum `M i` say that it lies strictly between the infinities. -/
theorem between_of_part1 (M : FVec Ideal Cert.Pre_finite_rows.S12x128 .f32) (R : Fin 12) (L : Fin 128)
    (h : Cert.Pre_finite_rows.fn_part1 (F := Ideal)
      (cmpf .ogt M (broadcastInDim Cert.Pre_finite_rows.S12x128 ![] Cert.Pre_finite_rows.Facts.bcast_S_S12x128 (constant (F := Ideal) Cert.Pre_finite_rows.S_ .f32 0xFF800000#32)))
      (cmpf .olt M (broadcastInDim Cert.Pre_finite_rows.S12x128 ![] Cert.Pre_finite_rows.Facts.bcast_S_S12x128 (constant (F := Ideal) Cert.Pre_finite_rows.S_ .f32 0x7F800000#32)))
      (ix2 R L) = 1#1) :
    Ideal.ofBits .f32 0xFF800000#32 < M (ix2 R L) ∧ M (ix2 R L) < Ideal.ofBits .f32 0x7F800000#32 := by
  unfold Cert.Pre_finite_rows.fn_part1 at h
  pointwise at h
  exact both_of_andi h

/-- The precondition is those comparisons of an array whose entries are the suprema of the masked rows. -/
theorem pre_max : ∃ M : FVec Ideal Cert.Pre_finite_rows.S12x128 .f32,
    Cert.Pre_finite_rows.fn (F := Ideal) x w = Cert.Pre_finite_rows.fn_part1 (F := Ideal)
      (cmpf .ogt M (broadcastInDim Cert.Pre_finite_rows.S12x128 ![] Cert.Pre_finite_rows.Facts.bcast_S_S12x128 (constant (F := Ideal) Cert.Pre_finite_rows.S_ .f32 0xFF800000#32)))
      (cmpf .olt M (broadcastInDim Cert.Pre_finite_rows.S12x128 ![] Cert.Pre_finite_rows.Facts.bcast_S_S12x128 (constant (F := Ideal) Cert.Pre_finite_rows.S_ .f32 0x7F800000#32)))
    ∧ ∀ (R : Fin 12) (L : Fin 128), M (ix2 R L) = Finset.fold max (Ideal.ofBits .f32 0xFF800000#32) (seen x w R L) Finset.univ := by
  refine ⟨_, by dsimp only [Cert.Pre_finite_rows.fn], fun R L => ?_⟩
  unfold Cert.Pre_finite_rows.fn_where
  pointwise
  rfl

/-- The precondition on a row: its largest permitted logit is a real number. -/
theorem pre_row (h : Cert.Pre_finite_rows.fn (F := Ideal) x w = fun _ => 1#1) (R : Fin 12) (L : Fin 128) :
    ∃ a : ℝ, ⨆ v, grow x w R L v = (a : EReal) := by
  obtain ⟨M, hM, hr⟩ := pre_max x w
  obtain ⟨lo, hi⟩ := between_of_part1 M R L (congrFun (hM.symm.trans h) (ix2 R L))
  exact real_of_between (M (ix2 R L)) _ ((hr R L).trans (seen_max x w R L)) lo hi

/-- The reference's logarithm of the sum is the kernel's, on every row. -/
theorem lse_tie (R : Fin 12) (L : Fin 128) :
    Ideal.log (refSum (zrow x w R L)) = Ideal.log (Cert.KernelIdeal.Hand.rowSum (grow x w R L)) := by
  rw [sum_eq (grow x w R L) (zrow x w R L) (zrow_eq x w R L)]

/-- The reference's scale is the kernel's, on every row. -/
theorem scale_tie (h : Cert.Pre_finite_rows.fn (F := Ideal) x w = fun _ => 1#1) (R : Fin 12) (L : Fin 128) :
    refScale (zrow x w R L) = Cert.KernelIdeal.Hand.rowScale (grow x w R L) := by
  obtain ⟨a, ha⟩ := pre_row x w h R L
  exact (scale_code_eq (grow x w R L) (zrow x w R L) (zrow_eq x w R L) a ha).1.symm

/-- The reference's codes are the kernel's, at every entry of a row. -/
theorem code_tie (h : Cert.Pre_finite_rows.fn (F := Ideal) x w = fun _ => 1#1) (R : Fin 12) (L : Fin 128) (v : Fin 49152) :
    refCode (zrow x w R L) v
      = Cert.KernelIdeal.Hand.code (Cert.KernelIdeal.Hand.rowExp (grow x w R L) v) (Cert.KernelIdeal.Hand.rowFac (grow x w R L)) := by
  obtain ⟨a, ha⟩ := pre_row x w h R L
  exact ((scale_code_eq (grow x w R L) (zrow x w R L) (zrow_eq x w R L) a ha).2 v).symm

/-- The array of logarithms, in the reference's words and in the kernel's. -/
theorem lse_array (y : S12x128.Idx) :
    Ideal.log (refSum (zrow x w (y 0) (y 1))) = smallOf (fun f => Ideal.log (Cert.KernelIdeal.Hand.rowSum f)) x w y := by
  unfold smallOf
  generalize y 0 = R
  generalize y 1 = L
  exact lse_tie x w R L

/-- The array of scales, in the reference's words and in the kernel's. -/
theorem scale_array (h : Cert.Pre_finite_rows.fn (F := Ideal) x w = fun _ => 1#1) (y : S12x128.Idx) :
    refScale (zrow x w (y 0) (y 1)) = smallOf Cert.KernelIdeal.Hand.rowScale x w y := by
  unfold smallOf
  generalize y 0 = R
  generalize y 1 = L
  exact scale_tie x w h R L

/-- The array of codes, in the reference's words and in the kernel's. -/
theorem code_array (h : Cert.Pre_finite_rows.fn (F := Ideal) x w = fun _ => 1#1) (y : S1536x49152.Idx)
    (h1 : (y 0).val / 128 < 12) (h2 : (y 0).val % 128 < 128) :
    refCode (zrow x w ⟨(y 0).val / 128, h1⟩ ⟨(y 0).val % 128, h2⟩) (y 1) = codesOf x w y := by
  unfold codesOf
  exact code_tie x w h ⟨(y 0).val / 128, h1⟩ ⟨(y 0).val % 128, h2⟩ (y 1)

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_finite_rows
public import proofs.«01_k».proof.Proof.KernelFrame
public import proofs.«01_k».proof.Proof.KernelIdealFrame
public import proofs.«01_k».proof.Proof.Tie
public import Idealize.ShloMosaic.Adequacy
public import Idealize.ShloMosaic.Init

@[expose] public section

noncomputable section

namespace Cert.Proof

open Idealize.ShloMosaic Idealize.SL.Sem Cert.Kernel

/-- The two named constants: the values 4/5 and 1 / log 2 stand for the float32 words of the kernel. -/
theorem preserves : Cert.preserves_Kernel_KernelIdeal :=
  ⟨IdealRules.named_const.statement Cert.KernelIdeal.κ "temperature" .f32 0x3F4CCCCD#32 ((4 / 5 : ℝ) : EReal) rfl,
    IdealRules.named_const.statement Cert.KernelIdeal.κ "log2_e" .f32 0x3FB8AA3B#32 (((Real.log 2)⁻¹ : ℝ) : EReal) rfl⟩

/-- The three results of the kernel are the reference's: the row values are named once, and both runs end at them. -/
theorem algebraic : Cert.algebraic_KernelIdeal_ReferenceIdeal_pre_finite_rows := by
  intro m g m' g' hp ha
  refine ⟨fun c => Cert.KernelIdeal.Launched.smallOf (fun f => Ideal.log (Cert.KernelIdeal.Hand.rowSum f)) (m (c.tc.loc Cert.KernelIdeal.main_arg0)) (m (c.tc.loc Cert.KernelIdeal.main_arg1)),
    fun c => Cert.KernelIdeal.Launched.codesOf (m (c.tc.loc Cert.KernelIdeal.main_arg0)) (m (c.tc.loc Cert.KernelIdeal.main_arg1)),
    fun c => Cert.KernelIdeal.Launched.smallOf Cert.KernelIdeal.Hand.rowScale (m (c.tc.loc Cert.KernelIdeal.main_arg0)) (m (c.tc.loc Cert.KernelIdeal.main_arg1)),
    Cert.KernelIdeal.Launched.run_values m g, (Cert.ReferenceIdeal.Read.run_values m' g').mono fun r h c => ?_⟩
  obtain ⟨hl, hc, hs, h0, h1⟩ := h c
  rw [(ha c).1, (ha c).2] at hl hc hs
  exact ⟨funext fun y => (hl y).trans (Cert.Hand.lse_array _ _ y), funext fun y => (hc y).trans (Cert.Hand.code_array _ _ (hp c) y _ _),
    funext fun y => (hs y).trans (Cert.Hand.scale_array _ _ (hp c) y), h0, h1⟩

/-- Every claim. -/
theorem claim : Cert.Claim := ⟨Cert.Kernel.Gen.facts, Cert.KernelIdeal.Gen.facts, Cert.ReferenceIdeal.Gen.facts, Cert.Pre_finite_rows.Gen.facts,
  fun m g _ => Cert.Kernel.Hand.frame m g, fun m g _ => Cert.KernelIdeal.Hand.frame m g, fun m g _ => Cert.KernelIdeal.Hand.frame m g,
  fun m g _ => Cert.ReferenceIdeal.Gen.frame m g, fun m g _ => Cert.ReferenceIdeal.Gen.frame m g, preserves, algebraic⟩

end Cert.Proof

end
